-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_on_the_ring [hPre_finite_on_the_ring : Cert.Pre_finite_on_the_ring.Facts] (m : (ℓ : Loc Cert.KernelIdeal.nD Cert.KernelIdeal.τ Cert.KernelIdeal.sig) → Buf (Elt Ideal) ℓ) : Prop :=
  ∀ c : Dev Cert.KernelIdeal.nD,
    (Cert.Pre_finite_on_the_ring.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_on_the_ring [hPre_finite_on_the_ring : Cert.Pre_finite_on_the_ring.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_on_the_ring.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_on_the_ring [hKernelIdeal : Cert.KernelIdeal.Facts] [hPre_finite_on_the_ring : Cert.Pre_finite_on_the_ring.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_on_the_ring m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_on_the_ring [hReferenceIdeal : Cert.ReferenceIdeal.Facts] [hPre_finite_on_the_ring : Cert.Pre_finite_on_the_ring.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_on_the_ring m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_on_the_ring [hKernelIdeal : Cert.KernelIdeal.Facts] [hReferenceIdeal : Cert.ReferenceIdeal.Facts] [hPre_finite_on_the_ring : Cert.Pre_finite_on_the_ring.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_on_the_ring m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v212)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_on_the_ring : Cert.Pre_finite_on_the_ring.Facts),
    quiescent_Kernel (hKernel := hKernel)
    ∧ quiescent_KernelIdeal (hKernelIdeal := hKernelIdeal)
    ∧ quiescent_KernelIdeal_pre_finite_on_the_ring (hKernelIdeal := hKernelIdeal) (hPre_finite_on_the_ring := hPre_finite_on_the_ring)
    ∧ quiescent_ReferenceIdeal (hReferenceIdeal := hReferenceIdeal)
    ∧ quiescent_ReferenceIdeal_pre_finite_on_the_ring (hReferenceIdeal := hReferenceIdeal) (hPre_finite_on_the_ring := hPre_finite_on_the_ring)
    ∧ preserves_Kernel_KernelIdeal
    ∧ algebraic_KernelIdeal_ReferenceIdeal_pre_finite_on_the_ring (hKernelIdeal := hKernelIdeal) (hReferenceIdeal := hReferenceIdeal) (hPre_finite_on_the_ring := hPre_finite_on_the_ring)
-- ==== Pre_finite_on_the_ring.lean ====
abbrev S64x4x400 : Shape := ⟨3, ![64, 4, 400]⟩
abbrev S4x4x64 : Shape := ⟨3, ![4, 4, 64]⟩
abbrev S4x64 : Shape := ⟨2, ![4, 64]⟩
abbrev S4x128x1 : Shape := ⟨3, ![4, 128, 1]⟩
abbrev S4x1 : Shape := ⟨2, ![4, 1]⟩
abbrev S4x256x12 : Shape := ⟨3, ![4, 256, 12]⟩
abbrev S4x12 : Shape := ⟨2, ![4, 12]⟩
abbrev S4x24x1 : Shape := ⟨3, ![4, 24, 1]⟩
abbrev S400x8 : Shape := ⟨2, ![400, 8]⟩
abbrev S_ : Shape := ⟨0, ![]⟩

class Facts : Prop where
  bcast_S_S400x8 : S_.BroadcastsInDim S400x8 (![] : Fin 0 → Fin S400x8.rank)
  bcast_S_S64x4x400 : S_.BroadcastsInDim S64x4x400 (![] : Fin 0 → Fin S64x4x400.rank)
  reducesTo_S64x4x400_S_d0_1_2 : S64x4x400.ReducesTo [0, 1, 2] S_
  h_S_ : 0 < S_.numel
  bcast_S_S4x4x64 : S_.BroadcastsInDim S4x4x64 (![] : Fin 0 → Fin S4x4x64.rank)
  reducesTo_S4x4x64_S_d0_1_2 : S4x4x64.ReducesTo [0, 1, 2] S_
  bcast_S_S4x64 : S_.BroadcastsInDim S4x64 (![] : Fin 0 → Fin S4x64.rank)
  reducesTo_S4x64_S_d0_1 : S4x64.ReducesTo [0, 1] S_
  bcast_S_S4x128x1 : S_.BroadcastsInDim S4x128x1 (![] : Fin 0 → Fin S4x128x1.rank)
  reducesTo_S4x128x1_S_d0_1_2 : S4x128x1.ReducesTo [0, 1, 2] S_
  bcast_S_S4x1 : S_.BroadcastsInDim S4x1 (![] : Fin 0 → Fin S4x1.rank)
  reducesTo_S4x1_S_d0_1 : S4x1.ReducesTo [0, 1] S_
  bcast_S_S4x256x12 : S_.BroadcastsInDim S4x256x12 (![] : Fin 0 → Fin S4x256x12.rank)
  reducesTo_S4x256x12_S_d0_1_2 : S4x256x12.ReducesTo [0, 1, 2] S_
  bcast_S_S4x12 : S_.BroadcastsInDim S4x12 (![] : Fin 0 → Fin S4x12.rank)
  reducesTo_S4x12_S_d0_1 : S4x12.ReducesTo [0, 1] S_
  bcast_S_S4x24x1 : S_.BroadcastsInDim S4x24x1 (![] : Fin 0 → Fin S4x24x1.rank)
  reducesTo_S4x24x1_S_d0_1_2 : S4x24x1.ReducesTo [0, 1, 2] S_
  reducesTo_S400x8_S_d0_1 : S400x8.ReducesTo [0, 1] S_

variable [Facts]

def fn_where {F : FTy → Type} [FloatOps F] (arg0 : IVec S400x8 1) (arg1 : IVec S400x8 32) (arg2 : IVec S400x8 32) : IVec S400x8 32 :=
  let v0 : IVec S400x8 32 := select arg0 arg1 arg2
  v0

def fn_part3 {F : FTy → Type} [FloatOps F] (main_arg8 : FVec F S4x1 .f32) (main_arg9 : IVec S400x8 32) (main_v13 : IVec S400x8 32) (main_v47 : IVec S_ 1) (main_v50 : IVec S4x24x1 1) (main_c_18 : IVec S_ 1) : IVec S_ 1 :=
  let main_v51 : IVec S_ 1 := (fun x v => Host.reduce IntOp.andi x v reducesTo_S4x24x1_S_d0_1_2 h_S_) main_v50 main_c_18
  let main_v52 : IVec S_ 1 := andi main_v47 main_v51
  let main_v53 : FVec F S4x1 .f32 := Host.absf main_arg8
  let main_cst_19 : FVec F S_ .f32 := constant S_ .f32 0x7F800000#32
  let main_v54 : FVec F S4x1 .f32 := broadcastInDim S4x1 ![] bcast_S_S4x1 main_cst_19
  let main_v55 : IVec S4x1 1 := cmpf .olt main_v53 main_v54
  let main_c_20 : IVec S_ 1 := constantI S_ 1 1#1
  let main_v56 : IVec S_ 1 := (fun x v => Host.reduce IntOp.andi x v reducesTo_S4x1_S_d0_1 h_S_) main_v55 main_c_20
  let main_v57 : IVec S_ 1 := andi main_v52 main_v56
  let main_v58 : IVec S400x8 1 := cmpi .eq main_arg9 main_v13
  let main_c_21 : IVec S_ 1 := constantI S_ 1 1#1
  let main_v59 : IVec S_ 1 := (fun x v => Host.reduce IntOp.andi x v reducesTo_S400x8_S_d0_1 h_S_) main_v58 main_c_21
  let main_v60 : IVec S_ 1 := andi main_v57 main_v59
  main_v60

def fn_part2 {F : FTy → Type} [FloatOps F] (main_arg5 : FVec F S4x256x12 .f32) (main_arg6 : FVec F S4x12 .f32) (main_arg7 : FVec F S4x24x1 .f32) (main_arg8 : FVec F S4x1 .f32) (main_arg9 : IVec S400x8 32) (main_v13 : IVec S400x8 32) (main_v32 : IVec S_ 1) (main_v33 : FVec F S4x1 .f32) (main_cst_11 : FVec F S_ .f32) : IVec S_ 1 :=
  let main_v34 : FVec F S4x1 .f32 := broadcastInDim S4x1 ![] bcast_S_S4x1 main_cst_11
  let main_v35 : IVec S4x1 1 := cmpf .olt main_v33 main_v34
  let main_c_12 : IVec S_ 1 := constantI S_ 1 1#1
  let main_v36 : IVec S_ 1 := (fun x v => Host.reduce IntOp.andi x v reducesTo_S4x1_S_d0_1 h_S_) main_v35 main_c_12
  let main_v37 : IVec S_ 1 := andi main_v32 main_v36
  let main_v38 : FVec F S4x256x12 .f32 := Host.absf main_arg5
  let main_cst_13 : FVec F S_ .f32 := constant S_ .f32 0x7F800000#32
  let main_v39 : FVec F S4x256x12 .f32 := broadcastInDim S4x256x12 ![] bcast_S_S4x256x12 main_cst_13
  let main_v40 : IVec S4x256x12 1 := cmpf .olt main_v38 main_v39
  let main_c_14 : IVec S_ 1 := constantI S_ 1 1#1
  let main_v41 : IVec S_ 1 := (fun x v => Host.reduce IntOp.andi x v reducesTo_S4x256x12_S_d0_1_2 h_S_) main_v40 main_c_14
  let main_v42 : IVec S_ 1 := andi main_v37 main_v41
  let main_v43 : FVec F S4x12 .f32 := Host.absf main_arg6
  let main_cst_15 : FVec F S_ .f32 := constant S_ .f32 0x7F800000#32
  let main_v44 : FVec F S4x12 .f32 := broadcastInDim S4x12 ![] bcast_S_S4x12 main_cst_15
  let main_v45 : IVec S4x12 1 := cmpf .olt main_v43 main_v44
  let main_c_16 : IVec S_ 1 := constantI S_ 1 1#1
  let main_v46 : IVec S_ 1 := (fun x v => Host.reduce IntOp.andi x v reducesTo_S4x12_S_d0_1 h_S_) main_v45 main_c_16
  let main_v47 : IVec S_ 1 := andi main_v42 main_v46
  let main_v48 : FVec F S4x24x1 .f32 := Host.absf main_arg7
  let main_cst_17 : FVec F S_ .f32 := constant S_ .f32 0x7F800000#32
  let main_v49 : FVec F S4x24x1 .f32 := broadcastInDim S4x24x1 ![] bcast_S_S4x24x1 main_cst_17
  let main_v50 : IVec S4x24x1 1 := cmpf .olt main_v48 main_v49
  let main_c_18 : IVec S_ 1 := constantI S_ 1 1#1
  fn_part3 (F := F) main_arg8 main_arg9 main_v13 main_v47 main_v50 main_c_18

def fn_part1 {F : FTy → Type} [FloatOps F] (main_arg1 : FVec F S4x4x64 .f32) (main_arg2 : FVec F S4x64 .f32) (main_arg3 : FVec F S4x128x1 .f32) (main_arg4 : FVec F S4x1 .f32) (main_arg5 : FVec F S4x256x12 .f32) (main_arg6 : FVec F S4x12 .f32) (main_arg7 : FVec F S4x24x1 .f32) (main_arg8 : FVec F S4x1 .f32) (main_arg9 : IVec S400x8 32) (main_v13 : IVec S400x8 32) (main_v16 : IVec S64x4x400 1) (main_c_4 : IVec S_ 1) : IVec S_ 1 :=
  let main_v17 : IVec S_ 1 := (fun x v => Host.reduce IntOp.andi x v reducesTo_S64x4x400_S_d0_1_2 h_S_) main_v16 main_c_4
  let main_v18 : FVec F S4x4x64 .f32 := Host.absf main_arg1
  let main_cst_5 : FVec F S_ .f32 := constant S_ .f32 0x7F800000#32
  let main_v19 : FVec F S4x4x64 .f32 := broadcastInDim S4x4x64 ![] bcast_S_S4x4x64 main_cst_5
  let main_v20 : IVec S4x4x64 1 := cmpf .olt main_v18 main_v19
  let main_c_6 : IVec S_ 1 := constantI S_ 1 1#1
  let main_v21 : IVec S_ 1 := (fun x v => Host.reduce IntOp.andi x v reducesTo_S4x4x64_S_d0_1_2 h_S_) main_v20 main_c_6
  let main_v22 : IVec S_ 1 := andi main_v17 main_v21
  let main_v23 : FVec F S4x64 .f32 := Host.absf main_arg2
  let main_cst_7 : FVec F S_ .f32 := constant S_ .f32 0x7F800000#32
  let main_v24 : FVec F S4x64 .f32 := broadcastInDim S4x64 ![] bcast_S_S4x64 main_cst_7
  let main_v25 : IVec S4x64 1 := cmpf .olt main_v23 main_v24
  let main_c_8 : IVec S_ 1 := constantI S_ 1 1#1
  let main_v26 : IVec S_ 1 := (fun x v => Host.reduce IntOp.andi x v reducesTo_S4x64_S_d0_1 h_S_) main_v25 main_c_8
  let main_v27 : IVec S_ 1 := andi main_v22 main_v26
  let main_v28 : FVec F S4x128x1 .f32 := Host.absf main_arg3
  let main_cst_9 : FVec F S_ .f32 := constant S_ .f32 0x7F800000#32
  let main_v29 : FVec F S4x128x1 .f32 := broadcastInDim S4x128x1 ![] bcast_S_S4x128x1 main_cst_9
  let main_v30 : IVec S4x128x1 1 := cmpf .olt main_v28 main_v29
  let main_c_10 : IVec S_ 1 := constantI S_ 1 1#1
  let main_v31 : IVec S_ 1 := (fun x v => Host.reduce IntOp.andi x v reducesTo_S4x128x1_S_d0_1_2 h_S_) main_v30 main_c_10
  let main_v32 : IVec S_ 1 := andi main_v27 main_v31
  let main_v33 : FVec F S4x1 .f32 := Host.absf main_arg4
  let main_cst_11 : FVec F S_ .f32 := constant S_ .f32 0x7F800000#32
  fn_part2 (F := F) main_arg5 main_arg6 main_arg7 main_arg8 main_arg9 main_v13 main_v32 main_v33 main_cst_11

def fn {F : FTy → Type} [FloatOps F] (main_arg0 : FVec F S64x4x400 .f32) (main_arg1 : FVec F S4x4x64 .f32) (main_arg2 : FVec F S4x64 .f32) (main_arg3 : FVec F S4x128x1 .f32) (main_arg4 : FVec F S4x1 .f32) (main_arg5 : FVec F S4x256x12 .f32) (main_arg6 : FVec F S4x12 .f32) (main_arg7 : FVec F S4x24x1 .f32) (main_arg8 : FVec F S4x1 .f32) (main_arg9 : IVec S400x8 32) : IVec S_ 1 :=
  let main_v0 : IVec S400x8 32 := iotaInDim S400x8 32 0
  let main_v1 : IVec S400x8 32 := iotaInDim S400x8 32 1
  let main_c : IVec S_ 32 := constantI S_ 32 4#32
  let main_v2 : IVec S400x8 32 := broadcastInDim S400x8 ![] bcast_S_S400x8 main_c
  let main_v3 : IVec S400x8 1 := cmpi .slt main_v1 main_v2
  let main_c_0 : IVec S_ 32 := constantI S_ 32 1#32
  let main_v4 : IVec S400x8 32 := broadcastInDim S400x8 ![] bcast_S_S400x8 main_c_0
  let main_v5 : IVec S400x8 32 := addi main_v1 main_v4
  let main_c_1 : IVec S_ 32 := constantI S_ 32 3#32
  let main_v6 : IVec S400x8 32 := broadcastInDim S400x8 ![] bcast_S_S400x8 main_c_1
  let main_v7 : IVec S400x8 32 := subi main_v6 main_v1
  let main_v8 : IVec S400x8 32 := fn_where (F := F) main_v3 main_v5 main_v7
  let main_v9 : IVec S400x8 32 := addi main_v0 main_v8
  let main_c_2 : IVec S_ 32 := constantI S_ 32 400#32
  let main_v10 : IVec S400x8 32 := broadcastInDim S400x8 ![] bcast_S_S400x8 main_c_2
  let main_v11 : IVec S400x8 32 := addi main_v9 main_v10
  let main_c_3 : IVec S_ 32 := constantI S_ 32 400#32
  let main_v12 : IVec S400x8 32 := broadcastInDim S400x8 ![] bcast_S_S400x8 main_c_3
  let main_v13 : IVec S400x8 32 := Host.remsi main_v11 main_v12
  let main_v14 : FVec F S64x4x400 .f32 := Host.absf main_arg0
  let main_cst : FVec F S_ .f32 := constant S_ .f32 0x7F800000#32
  let main_v15 : FVec F S64x4x400 .f32 := broadcastInDim S64x4x400 ![] bcast_S_S64x4x400 main_cst
  let main_v16 : IVec S64x4x400 1 := cmpf .olt main_v14 main_v15
  let main_c_4 : IVec S_ 1 := constantI S_ 1 1#1
  fn_part1 (F := F) main_arg1 main_arg2 main_arg3 main_arg4 main_arg5 main_arg6 main_arg7 main_arg8 main_arg9 main_v13 main_v16 main_c_4
-- ==== Kernel.lean ====
abbrev S64x4x400 : Shape := ⟨3, ![64, 4, 400]⟩
abbrev S4x4x64 : Shape := ⟨3, ![4, 4, 64]⟩
abbrev S4x64 : Shape := ⟨2, ![4, 64]⟩
abbrev S4x128x1 : Shape := ⟨3, ![4, 128, 1]⟩
abbrev S4x1 : Shape := ⟨2, ![4, 1]⟩
abbrev S4x256x12 : Shape := ⟨3, ![4, 256, 12]⟩
abbrev S4x12 : Shape := ⟨2, ![4, 12]⟩
abbrev S4x24x1 : Shape := ⟨3, ![4, 24, 1]⟩
abbrev S400x8 : Shape := ⟨2, ![400, 8]⟩
abbrev S32x128 : Shape := ⟨2, ![32, 128]⟩
abbrev S32x384 : Shape := ⟨2, ![32, 384]⟩
abbrev S32x256 : Shape := ⟨2, ![32, 256]⟩
abbrev S8x8 : Shape := ⟨2, ![8, 8]⟩
abbrev S_ : Shape := ⟨0, ![]⟩
abbrev S1x8 : Shape := ⟨2, ![1, 8]⟩
abbrev S64x400x4 : Shape := ⟨3, ![64, 400, 4]⟩
abbrev S64x8x4 : Shape := ⟨3, ![64, 8, 4]⟩
abbrev S64x416x4 : Shape := ⟨3, ![64, 416, 4]⟩
abbrev S1x64x1x416x1x4 : Shape := ⟨6, ![1, 64, 1, 416, 1, 4]⟩
abbrev S1x64x1x416x4x4 : Shape := ⟨6, ![1, 64, 1, 416, 4, 4]⟩
abbrev S64x416x16 : Shape := ⟨3, ![64, 416, 16]⟩
abbrev S8x8x416x16 : Shape := ⟨4, ![8, 8, 416, 16]⟩
abbrev S8x416x16x8 : Shape := ⟨4, ![8, 416, 16, 8]⟩
abbrev S8x416x128 : Shape := ⟨3, ![8, 416, 128]⟩
abbrev S4x256 : Shape := ⟨2, ![4, 256]⟩
abbrev S256x8 : Shape := ⟨2, ![256, 8]⟩
abbrev S1x64x1 : Shape := ⟨3, ![1, 64, 1]⟩
abbrev S64 : Shape := ⟨1, ![64]⟩
abbrev S1 : Shape := ⟨1, ![1]⟩
abbrev S2 : Shape := ⟨1, ![2]⟩
abbrev S4x8 : Shape := ⟨2, ![4, 8]⟩
abbrev S4x1x8x1 : Shape := ⟨4, ![4, 1, 8, 1]⟩
abbrev S1x8x1x8 : Shape := ⟨4, ![1, 8, 1, 8]⟩
abbrev S4x8x8x8 : Shape := ⟨4, ![4, 8, 8, 8]⟩
abbrev S32x64 : Shape := ⟨2, ![32, 64]⟩
abbrev S1x256 : Shape := ⟨2, ![1, 256]⟩
abbrev S1x1x8x1 : Shape := ⟨4, ![1, 1, 8, 1]⟩
abbrev S1x1x1x8 : Shape := ⟨4, ![1, 1, 1, 8]⟩
abbrev S1x1x8x8 : Shape := ⟨4, ![1, 1, 8, 8]⟩
abbrev S1x64 : Shape := ⟨2, ![1, 64]⟩
abbrev S1x4 : Shape := ⟨2, ![1, 4]⟩
abbrev S1x1x1x4 : Shape := ⟨4, ![1, 1, 1, 4]⟩
abbrev S1x1x8x4 : Shape := ⟨4, ![1, 1, 8, 4]⟩
abbrev S1x32 : Shape := ⟨2, ![1, 32]⟩
abbrev S1x1x32x1 : Shape := ⟨4, ![1, 1, 32, 1]⟩
abbrev S1x1x32x8 : Shape := ⟨4, ![1, 1, 32, 8]⟩
abbrev S16x256 : Shape := ⟨2, ![16, 256]⟩
abbrev S1x4x64 : Shape := ⟨3, ![1, 4, 64]⟩
abbrev S16x1x256x1 : Shape := ⟨4, ![16, 1, 256, 1]⟩
abbrev S16x8x256x8 : Shape := ⟨4, ![16, 8, 256, 8]⟩
abbrev S128x2048 : Shape := ⟨2, ![128, 2048]⟩
abbrev S1x1x256x1 : Shape := ⟨4, ![1, 1, 256, 1]⟩
abbrev S1x1x256x8 : Shape := ⟨4, ![1, 1, 256, 8]⟩
abbrev S1x2048 : Shape := ⟨2, ![1, 2048]⟩
abbrev S4x64x4x12 : Shape := ⟨4, ![4, 64, 4, 12]⟩
abbrev S4x4x64x12 : Shape := ⟨4, ![4, 4, 64, 12]⟩
abbrev S256x4x12 : Shape := ⟨3, ![256, 4, 12]⟩
abbrev S256x48 : Shape := ⟨2, ![256, 48]⟩
abbrev S256x1x48x1 : Shape := ⟨4, ![256, 1, 48, 1]⟩
abbrev S256x8x48x8 : Shape := ⟨4, ![256, 8, 48, 8]⟩
abbrev S2048x384 : Shape := ⟨2, ![2048, 384]⟩
abbrev S1x48 : Shape := ⟨2, ![1, 48]⟩
abbrev S1x1x48x1 : Shape := ⟨4, ![1, 1, 48, 1]⟩
abbrev S1x1x48x8 : Shape := ⟨4, ![1, 1, 48, 8]⟩
abbrev S1x384 : Shape := ⟨2, ![1, 384]⟩
abbrev S48x8 : Shape := ⟨2, ![48, 8]⟩
abbrev S1x12x1 : Shape := ⟨3, ![1, 12, 1]⟩
abbrev S12 : Shape := ⟨1, ![12]⟩
abbrev S48x1x8x1 : Shape := ⟨4, ![48, 1, 8, 1]⟩
abbrev S48x8x8x8 : Shape := ⟨4, ![48, 8, 8, 8]⟩
abbrev S384x64 : Shape := ⟨2, ![384, 64]⟩
abbrev S8x256x128 : Shape := ⟨3, ![8, 256, 128]⟩
abbrev S8x256x384 : Shape := ⟨3, ![8, 256, 384]⟩
abbrev S8x400x96 : Shape := ⟨3, ![8, 400, 96]⟩
abbrev S1x416x128 : Shape := ⟨3, ![1, 416, 128]⟩
abbrev S1x400x96 : Shape := ⟨3, ![1, 400, 96]⟩
abbrev S416x128 : Shape := ⟨2, ![416, 128]⟩
abbrev S416x32 : Shape := ⟨2, ![416, 32]⟩
abbrev S416x64 : Shape := ⟨2, ![416, 64]⟩
abbrev S408x32 : Shape := ⟨2, ![408, 32]⟩
abbrev S408x256 : Shape := ⟨2, ![408, 256]⟩
abbrev S408x128 : Shape := ⟨2, ![408, 128]⟩
abbrev S408x64 : Shape := ⟨2, ![408, 64]⟩
abbrev S1x256x128 : Shape := ⟨3, ![1, 256, 128]⟩
abbrev S256x128 : Shape := ⟨2, ![256, 128]⟩
abbrev S408x2048 : Shape := ⟨2, ![408, 2048]⟩
abbrev S408x384 : Shape := ⟨2, ![408, 384]⟩
abbrev S400x32 : Shape := ⟨2, ![400, 32]⟩
abbrev S400x256 : Shape := ⟨2, ![400, 256]⟩
abbrev S400x128 : Shape := ⟨2, ![400, 128]⟩
abbrev S400x64 : Shape := ⟨2, ![400, 64]⟩
abbrev S400x384 : Shape := ⟨2, ![400, 384]⟩
abbrev S1x256x384 : Shape := ⟨3, ![1, 256, 384]⟩
abbrev S256x384 : Shape := ⟨2, ![256, 384]⟩
abbrev S400x192 : Shape := ⟨2, ![400, 192]⟩
abbrev S400x96 : Shape := ⟨2, ![400, 96]⟩
abbrev S8x400x12x8 : Shape := ⟨4, ![8, 400, 12, 8]⟩
abbrev S8x8x12x400 : Shape := ⟨4, ![8, 8, 12, 400]⟩
abbrev S64x12x400 : Shape := ⟨3, ![64, 12, 400]⟩

abbrev nBuf : Space → Nat
  | .hbm => 328
  | .vmem => 18
  | .smem => 0
  | _ => 0

abbrev hbmTy0_0 (i : Nat) : BufTy := match i % 128 with
  | 0 => ⟨S64x4x400, .f32⟩
  | 1 => ⟨S4x4x64, .f32⟩
  | 2 => ⟨S4x64, .f32⟩
  | 3 => ⟨S4x128x1, .f32⟩
  | 4 => ⟨S4x1, .f32⟩
  | 5 => ⟨S4x256x12, .f32⟩
  | 6 => ⟨S4x12, .f32⟩
  | 7 => ⟨S4x24x1, .f32⟩
  | 8 => ⟨S4x1, .f32⟩
  | 9 => ⟨S400x8, .i32⟩
  | 10 => ⟨S32x128, .f32⟩
  | 11 => ⟨S32x384, .f32⟩
  | 12 => ⟨S32x256, .f32⟩
  | 13 => ⟨S8x8, .i32⟩
  | 14 => ⟨S8x8, .i32⟩
  | 15 => ⟨S_, .i32⟩
  | 16 => ⟨S8x8, .i32⟩
  | 17 => ⟨S8x8, .i32⟩
  | 18 => ⟨S8x8, .i1⟩
  | 19 => ⟨S8x8, .f32⟩
  | 20 => ⟨S_, .f32⟩
  | 21 => ⟨S1x8, .f32⟩
  | 22 => ⟨S64x400x4, .f32⟩
  | 23 => ⟨S64x8x4, .f32⟩
  | 24 => ⟨S64x8x4, .f32⟩
  | 25 => ⟨S64x416x4, .f32⟩
  | 26 => ⟨S1x64x1x416x1x4, .f32⟩
  | 27 => ⟨S1x64x1x416x4x4, .f32⟩
  | 28 => ⟨S64x416x16, .f32⟩
  | 29 => ⟨S8x8x416x16, .f32⟩
  | 30 => ⟨S8x416x16x8, .f32⟩
  | 31 => ⟨S8x416x128, .f32⟩
  | 32 => ⟨S4x4x64, .f32⟩
  | 33 => ⟨S4x256, .f32⟩
  | 34 => ⟨S_, .f32⟩
  | 35 => ⟨S256x8, .f32⟩
  | 36 => ⟨S1x64x1, .f32⟩
  | 37 => ⟨S64, .f32⟩
  | 38 => ⟨S_, .i32⟩
  | 39 => ⟨S1, .i32⟩
  | 40 => ⟨S_, .i32⟩
  | 41 => ⟨S1, .i32⟩
  | 42 => ⟨S2, .i32⟩
  | 43 => ⟨S256x8, .f32⟩
  | 44 => ⟨S1x64x1, .f32⟩
  | 45 => ⟨S64, .f32⟩
  | 46 => ⟨S_, .i32⟩
  | 47 => ⟨S1, .i32⟩
  | 48 => ⟨S_, .i32⟩
  | 49 => ⟨S1, .i32⟩
  | 50 => ⟨S2, .i32⟩
  | 51 => ⟨S256x8, .f32⟩
  | 52 => ⟨S1x64x1, .f32⟩
  | 53 => ⟨S64, .f32⟩
  | 54 => ⟨S_, .i32⟩
  | 55 => ⟨S1, .i32⟩
  | 56 => ⟨S_, .i32⟩
  | 57 => ⟨S1, .i32⟩
  | 58 => ⟨S2, .i32⟩
  | 59 => ⟨S256x8, .f32⟩
  | 60 => ⟨S1x64x1, .f32⟩
  | 61 => ⟨S64, .f32⟩
  | 62 => ⟨S_, .i32⟩
  | 63 => ⟨S1, .i32⟩
  | 64 => ⟨S_, .i32⟩
  | 65 => ⟨S1, .i32⟩
  | 66 => ⟨S2, .i32⟩
  | 67 => ⟨S256x8, .f32⟩
  | 68 => ⟨S1x64x1, .f32⟩
  | 69 => ⟨S64, .f32⟩
  | 70 => ⟨S_, .i32⟩
  | 71 => ⟨S1, .i32⟩
  | 72 => ⟨S_, .i32⟩
  | 73 => ⟨S1, .i32⟩
  | 74 => ⟨S2, .i32⟩
  | 75 => ⟨S256x8, .f32⟩
  | 76 => ⟨S1x64x1, .f32⟩
  | 77 => ⟨S64, .f32⟩
  | 78 => ⟨S_, .i32⟩
  | 79 => ⟨S1, .i32⟩
  | 80 => ⟨S_, .i32⟩
  | 81 => ⟨S1, .i32⟩
  | 82 => ⟨S2, .i32⟩
  | 83 => ⟨S256x8, .f32⟩
  | 84 => ⟨S1x64x1, .f32⟩
  | 85 => ⟨S64, .f32⟩
  | 86 => ⟨S_, .i32⟩
  | 87 => ⟨S1, .i32⟩
  | 88 => ⟨S_, .i32⟩
  | 89 => ⟨S1, .i32⟩
  | 90 => ⟨S2, .i32⟩
  | 91 => ⟨S256x8, .f32⟩
  | 92 => ⟨S1x64x1, .f32⟩
  | 93 => ⟨S64, .f32⟩
  | 94 => ⟨S_, .i32⟩
  | 95 => ⟨S1, .i32⟩
  | 96 => ⟨S_, .i32⟩
  | 97 => ⟨S1, .i32⟩
  | 98 => ⟨S2, .i32⟩
  | 99 => ⟨S256x8, .f32⟩
  | 100 => ⟨S4x8, .f32⟩
  | 101 => ⟨S4x1x8x1, .f32⟩
  | 102 => ⟨S1x8x1x8, .f32⟩
  | 103 => ⟨S4x8x8x8, .f32⟩
  | 104 => ⟨S4x8x8x8, .f32⟩
  | 105 => ⟨S4x8x8x8, .f32⟩
  | 106 => ⟨S32x64, .f32⟩
  | 107 => ⟨S1x256, .f32⟩
  | 108 => ⟨S1x8, .f32⟩
  | 109 => ⟨S1x1x8x1, .f32⟩
  | 110 => ⟨S1x1x1x8, .f32⟩
  | 111 => ⟨S1x1x8x8, .f32⟩
  | 112 => ⟨S1x1x8x8, .f32⟩
  | 113 => ⟨S1x1x8x8, .f32⟩
  | 114 => ⟨S1x64, .f32⟩
  | 115 => ⟨S1x4, .f32⟩
  | 116 => ⟨S1x1x1x4, .f32⟩
  | 117 => ⟨S1x1x8x4, .f32⟩
  | 118 => ⟨S1x32, .f32⟩
  | 119 => ⟨S1x1x32x1, .f32⟩
  | 120 => ⟨S1x1x1x8, .f32⟩
  | 121 => ⟨S1x1x32x8, .f32⟩
  | 122 => ⟨S1x1x32x8, .f32⟩
  | 123 => ⟨S1x1x32x8, .f32⟩
  | 124 => ⟨S1x256, .f32⟩
  | 125 => ⟨S_, .f32⟩
  | 126 => ⟨S16x256, .f32⟩
  | 127 => ⟨S1x4x64, .f32⟩
  | _ => ⟨S64x4x400, .f32⟩

abbrev hbmTy0_1 (i : Nat) : BufTy := match i % 128 with
  | 0 => ⟨S4x64, .f32⟩
  | 1 => ⟨S_, .i32⟩
  | 2 => ⟨S1, .i32⟩
  | 3 => ⟨S_, .i32⟩
  | 4 => ⟨S1, .i32⟩
  | 5 => ⟨S2, .i32⟩
  | 6 => ⟨S16x256, .f32⟩
  | 7 => ⟨S1x4x64, .f32⟩
  | 8 => ⟨S4x64, .f32⟩
  | 9 => ⟨S_, .i32⟩
  | 10 => ⟨S1, .i32⟩
  | 11 => ⟨S_, .i32⟩
  | 12 => ⟨S1, .i32⟩
  | 13 => ⟨S2, .i32⟩
  | 14 => ⟨S16x256, .f32⟩
  | 15 => ⟨S1x4x64, .f32⟩
  | 16 => ⟨S4x64, .f32⟩
  | 17 => ⟨S_, .i32⟩
  | 18 => ⟨S1, .i32⟩
  | 19 => ⟨S_, .i32⟩
  | 20 => ⟨S1, .i32⟩
  | 21 => ⟨S2, .i32⟩
  | 22 => ⟨S16x256, .f32⟩
  | 23 => ⟨S1x4x64, .f32⟩
  | 24 => ⟨S4x64, .f32⟩
  | 25 => ⟨S_, .i32⟩
  | 26 => ⟨S1, .i32⟩
  | 27 => ⟨S_, .i32⟩
  | 28 => ⟨S1, .i32⟩
  | 29 => ⟨S2, .i32⟩
  | 30 => ⟨S16x256, .f32⟩
  | 31 => ⟨S16x1x256x1, .f32⟩
  | 32 => ⟨S1x8x1x8, .f32⟩
  | 33 => ⟨S16x8x256x8, .f32⟩
  | 34 => ⟨S16x8x256x8, .f32⟩
  | 35 => ⟨S16x8x256x8, .f32⟩
  | 36 => ⟨S128x2048, .f32⟩
  | 37 => ⟨S1x256, .f32⟩
  | 38 => ⟨S1x1x256x1, .f32⟩
  | 39 => ⟨S1x1x1x8, .f32⟩
  | 40 => ⟨S1x1x256x8, .f32⟩
  | 41 => ⟨S1x1x256x8, .f32⟩
  | 42 => ⟨S1x1x256x8, .f32⟩
  | 43 => ⟨S1x2048, .f32⟩
  | 44 => ⟨S4x64x4x12, .f32⟩
  | 45 => ⟨S4x4x64x12, .f32⟩
  | 46 => ⟨S4x256x12, .f32⟩
  | 47 => ⟨S256x4x12, .f32⟩
  | 48 => ⟨S256x48, .f32⟩
  | 49 => ⟨S256x1x48x1, .f32⟩
  | 50 => ⟨S1x8x1x8, .f32⟩
  | 51 => ⟨S256x8x48x8, .f32⟩
  | 52 => ⟨S256x8x48x8, .f32⟩
  | 53 => ⟨S256x8x48x8, .f32⟩
  | 54 => ⟨S2048x384, .f32⟩
  | 55 => ⟨S1x48, .f32⟩
  | 56 => ⟨S1x1x48x1, .f32⟩
  | 57 => ⟨S1x1x1x8, .f32⟩
  | 58 => ⟨S1x1x48x8, .f32⟩
  | 59 => ⟨S1x1x48x8, .f32⟩
  | 60 => ⟨S1x1x48x8, .f32⟩
  | 61 => ⟨S1x384, .f32⟩
  | 62 => ⟨S_, .f32⟩
  | 63 => ⟨S48x8, .f32⟩
  | 64 => ⟨S1x12x1, .f32⟩
  | 65 => ⟨S12, .f32⟩
  | 66 => ⟨S_, .i32⟩
  | 67 => ⟨S1, .i32⟩
  | 68 => ⟨S_, .i32⟩
  | 69 => ⟨S1, .i32⟩
  | 70 => ⟨S2, .i32⟩
  | 71 => ⟨S48x8, .f32⟩
  | 72 => ⟨S1x12x1, .f32⟩
  | 73 => ⟨S12, .f32⟩
  | 74 => ⟨S_, .i32⟩
  | 75 => ⟨S1, .i32⟩
  | 76 => ⟨S_, .i32⟩
  | 77 => ⟨S1, .i32⟩
  | 78 => ⟨S2, .i32⟩
  | 79 => ⟨S48x8, .f32⟩
  | 80 => ⟨S1x12x1, .f32⟩
  | 81 => ⟨S12, .f32⟩
  | 82 => ⟨S_, .i32⟩
  | 83 => ⟨S1, .i32⟩
  | 84 => ⟨S_, .i32⟩
  | 85 => ⟨S1, .i32⟩
  | 86 => ⟨S2, .i32⟩
  | 87 => ⟨S48x8, .f32⟩
  | 88 => ⟨S1x12x1, .f32⟩
  | 89 => ⟨S12, .f32⟩
  | 90 => ⟨S_, .i32⟩
  | 91 => ⟨S1, .i32⟩
  | 92 => ⟨S_, .i32⟩
  | 93 => ⟨S1, .i32⟩
  | 94 => ⟨S2, .i32⟩
  | 95 => ⟨S48x8, .f32⟩
  | 96 => ⟨S1x12x1, .f32⟩
  | 97 => ⟨S12, .f32⟩
  | 98 => ⟨S_, .i32⟩
  | 99 => ⟨S1, .i32⟩
  | 100 => ⟨S_, .i32⟩
  | 101 => ⟨S1, .i32⟩
  | 102 => ⟨S2, .i32⟩
  | 103 => ⟨S48x8, .f32⟩
  | 104 => ⟨S1x12x1, .f32⟩
  | 105 => ⟨S12, .f32⟩
  | 106 => ⟨S_, .i32⟩
  | 107 => ⟨S1, .i32⟩
  | 108 => ⟨S_, .i32⟩
  | 109 => ⟨S1, .i32⟩
  | 110 => ⟨S2, .i32⟩
  | 111 => ⟨S48x8, .f32⟩
  | 112 => ⟨S1x12x1, .f32⟩
  | 113 => ⟨S12, .f32⟩
  | 114 => ⟨S_, .i32⟩
  | 115 => ⟨S1, .i32⟩
  | 116 => ⟨S_, .i32⟩
  | 117 => ⟨S1, .i32⟩
  | 118 => ⟨S2, .i32⟩
  | 119 => ⟨S48x8, .f32⟩
  | 120 => ⟨S1x12x1, .f32⟩
  | 121 => ⟨S12, .f32⟩
  | 122 => ⟨S_, .i32⟩
  | 123 => ⟨S1, .i32⟩
  | 124 => ⟨S_, .i32⟩
  | 125 => ⟨S1, .i32⟩
  | 126 => ⟨S2, .i32⟩
  | 127 => ⟨S48x8, .f32⟩
  | _ => ⟨S64x4x400, .f32⟩

abbrev hbmTy0_2 (i : Nat) : BufTy := match i % 128 with
  | 0 => ⟨S48x1x8x1, .f32⟩
  | 1 => ⟨S1x8x1x8, .f32⟩
  | 2 => ⟨S48x8x8x8, .f32⟩
  | 3 => ⟨S48x8x8x8, .f32⟩
  | 4 => ⟨S48x8x8x8, .f32⟩
  | 5 => ⟨S384x64, .f32⟩
  | 6 => ⟨S1x4, .f32⟩
  | 7 => ⟨S1x1x1x4, .f32⟩
  | 8 => ⟨S1x1x8x4, .f32⟩
  | 9 => ⟨S1x32, .f32⟩
  | 10 => ⟨S1x1x32x1, .f32⟩
  | 11 => ⟨S1x1x1x8, .f32⟩
  | 12 => ⟨S1x1x32x8, .f32⟩
  | 13 => ⟨S1x1x32x8, .f32⟩
  | 14 => ⟨S1x1x32x8, .f32⟩
  | 15 => ⟨S1x256, .f32⟩
  | 16 => ⟨S8x256x128, .i32⟩
  | 17 => ⟨S8x256x128, .i32⟩
  | 18 => ⟨S8x256x128, .i32⟩
  | 19 => ⟨S_, .i32⟩
  | 20 => ⟨S8x256x128, .i32⟩
  | 21 => ⟨S8x256x128, .i32⟩
  | 22 => ⟨S_, .i32⟩
  | 23 => ⟨S8x256x128, .i32⟩
  | 24 => ⟨S8x256x128, .i32⟩
  | 25 => ⟨S_, .i32⟩
  | 26 => ⟨S8x256x128, .i32⟩
  | 27 => ⟨S8x256x128, .i32⟩
  | 28 => ⟨S_, .i32⟩
  | 29 => ⟨S8x256x128, .i32⟩
  | 30 => ⟨S8x256x128, .i32⟩
  | 31 => ⟨S8x256x128, .i32⟩
  | 32 => ⟨S8x256x128, .i1⟩
  | 33 => ⟨S_, .i32⟩
  | 34 => ⟨S8x256x128, .i32⟩
  | 35 => ⟨S8x256x128, .i32⟩
  | 36 => ⟨S_, .i32⟩
  | 37 => ⟨S8x256x128, .i32⟩
  | 38 => ⟨S8x256x128, .i32⟩
  | 39 => ⟨S8x256x128, .i1⟩
  | 40 => ⟨S8x256x128, .i1⟩
  | 41 => ⟨S8x256x128, .f32⟩
  | 42 => ⟨S8x256x384, .i32⟩
  | 43 => ⟨S8x256x384, .i32⟩
  | 44 => ⟨S8x256x384, .i32⟩
  | 45 => ⟨S_, .i32⟩
  | 46 => ⟨S8x256x384, .i32⟩
  | 47 => ⟨S8x256x384, .i32⟩
  | 48 => ⟨S_, .i32⟩
  | 49 => ⟨S8x256x384, .i32⟩
  | 50 => ⟨S8x256x384, .i32⟩
  | 51 => ⟨S_, .i32⟩
  | 52 => ⟨S8x256x384, .i32⟩
  | 53 => ⟨S8x256x384, .i32⟩
  | 54 => ⟨S_, .i32⟩
  | 55 => ⟨S8x256x384, .i32⟩
  | 56 => ⟨S8x256x384, .i32⟩
  | 57 => ⟨S8x256x384, .i32⟩
  | 58 => ⟨S8x256x384, .i1⟩
  | 59 => ⟨S_, .i32⟩
  | 60 => ⟨S8x256x384, .i32⟩
  | 61 => ⟨S8x256x384, .i32⟩
  | 62 => ⟨S_, .i32⟩
  | 63 => ⟨S8x256x384, .i32⟩
  | 64 => ⟨S8x256x384, .i32⟩
  | 65 => ⟨S8x256x384, .i1⟩
  | 66 => ⟨S8x256x384, .i1⟩
  | 67 => ⟨S8x256x384, .f32⟩
  | 68 => ⟨S8x400x96, .f32⟩
  | 69 => ⟨S8x400x12x8, .f32⟩
  | 70 => ⟨S8x8x12x400, .f32⟩
  | 71 => ⟨S64x12x400, .f32⟩
  | _ => ⟨S64x4x400, .f32⟩

abbrev hbmTy (i : Nat) : BufTy := match i / 128 with
  | 0 => hbmTy0_0 i
  | 1 => hbmTy0_1 i
  | 2 => hbmTy0_2 i
  | _ => ⟨S64x4x400, .f32⟩

abbrev bufTy : (tb : Table) → Fin (tcTables nBuf tb) → BufTy
  | .hbm, ⟨i, _⟩ => hbmTy i
  | .local _ .vmem, ⟨0, _⟩ => ⟨S1x416x128, .f32⟩
  | .local _ .vmem, ⟨1, _⟩ => ⟨S1x416x128, .f32⟩
  | .local _ .vmem, ⟨2, _⟩ => ⟨S32x64, .f32⟩
  | .local _ .vmem, ⟨3, _⟩ => ⟨S1x64, .f32⟩
  | .local _ .vmem, ⟨4, _⟩ => ⟨S1x256, .f32⟩
  | .local _ .vmem, ⟨5, _⟩ => ⟨S8x256x128, .f32⟩
  | .local _ .vmem, ⟨6, _⟩ => ⟨S32x128, .f32⟩
  | .local _ .vmem, ⟨7, _⟩ => ⟨S128x2048, .f32⟩
  | .local _ .vmem, ⟨8, _⟩ => ⟨S1x2048, .f32⟩
  | .local _ .vmem, ⟨9, _⟩ => ⟨S2048x384, .f32⟩
  | .local _ .vmem, ⟨10, _⟩ => ⟨S1x384, .f32⟩
  | .local _ .vmem, ⟨11, _⟩ => ⟨S384x64, .f32⟩
  | .local _ .vmem, ⟨12, _⟩ => ⟨S1x256, .f32⟩
  | .local _ .vmem, ⟨13, _⟩ => ⟨S8x256x384, .f32⟩
  | .local _ .vmem, ⟨14, _⟩ => ⟨S32x384, .f32⟩
  | .local _ .vmem, ⟨15, _⟩ => ⟨S32x256, .f32⟩
  | .local _ .vmem, ⟨16, _⟩ => ⟨S1x400x96, .f32⟩
  | .local _ .vmem, ⟨17, _⟩ => ⟨S1x400x96, .f32⟩
  | _, _ => ⟨S64x4x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_10 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_c_13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_14 : Ref sig .tc := ⟨.hbm, 78, rfl⟩
abbrev main_v52 : Ref sig .tc := ⟨.hbm, 79, rfl⟩
abbrev main_c_15 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_16 : Ref sig .tc := ⟨.hbm, 86, rfl⟩
abbrev main_v58 : Ref sig .tc := ⟨.hbm, 87, rfl⟩
abbrev main_c_17 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_18 : Ref sig .tc := ⟨.hbm, 94, rfl⟩
abbrev main_v64 : Ref sig .tc := ⟨.hbm, 95, rfl⟩
abbrev main_c_19 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_v77 : Ref sig .tc := ⟨.hbm, 124, rfl⟩
abbrev main_cst_20 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_21 : Ref sig .tc := ⟨.hbm, 129, rfl⟩
abbrev main_v81 : Ref sig .tc := ⟨.hbm, 130, rfl⟩
abbrev main_c_22 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_c_23 : Ref sig .tc := ⟨.hbm, 137, rfl⟩
abbrev main_v87 : Ref sig .tc := ⟨.hbm, 138, rfl⟩
abbrev main_c_24 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_c_25 : Ref sig .tc := ⟨.hbm, 145, rfl⟩
abbrev main_v93 : Ref sig .tc := ⟨.hbm, 146, rfl⟩
abbrev main_c_26 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_c_27 : Ref sig .tc := ⟨.hbm, 153, rfl⟩
abbrev main_v99 : Ref sig .tc := ⟨.hbm, 154, rfl⟩
abbrev main_c_28 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_v103 : Ref sig .tc := ⟨.hbm, 164, rfl⟩
abbrev main_v104 : Ref sig .tc := ⟨.hbm, 165, rfl⟩
abbrev main_call4_v0 : Ref sig .tc := ⟨.hbm, 166, rfl⟩
abbrev main_call4_v1 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_call5_v0 : Ref sig .tc := ⟨.hbm, 177, rfl⟩
abbrev main_call5_v1 : Ref sig .tc := ⟨.hbm, 178, rfl⟩
abbrev main_call5_v2 : Ref sig .tc := ⟨.hbm, 179, rfl⟩
abbrev main_call5_v3 : Ref sig .tc := ⟨.hbm, 180, rfl⟩
abbrev main_call5_v4 : Ref sig .tc := ⟨.hbm, 181, rfl⟩
abbrev main_v111 : Ref sig .tc := ⟨.hbm, 182, rfl⟩
abbrev main_v112 : Ref sig .tc := ⟨.hbm, 183, rfl⟩
abbrev main_call6_v0 : Ref sig .tc := ⟨.hbm, 184, rfl⟩
abbrev main_call6_v1 : Ref sig .tc := ⟨.hbm, 185, rfl⟩
abbrev main_call6_v2 : Ref sig .tc := ⟨.hbm, 186, rfl⟩
abbrev main_call6_v3 : Ref sig .tc := ⟨.hbm, 187, rfl⟩
abbrev main_call6_v4 : Ref sig .tc := ⟨.hbm, 188, rfl⟩
abbrev main_v113 : Ref sig .tc := ⟨.hbm, 189, rfl⟩
abbrev main_cst_29 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_c_30 : Ref sig .tc := ⟨.hbm, 194, rfl⟩
abbrev main_v117 : Ref sig .tc := ⟨.hbm, 195, rfl⟩
abbrev main_c_31 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_c_32 : Ref sig .tc := ⟨.hbm, 202, rfl⟩
abbrev main_v123 : Ref sig .tc := ⟨.hbm, 203, rfl⟩
abbrev main_c_33 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_c_34 : Ref sig .tc := ⟨.hbm, 210, rfl⟩
abbrev main_v129 : Ref sig .tc := ⟨.hbm, 211, rfl⟩
abbrev main_c_35 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_c_36 : Ref sig .tc := ⟨.hbm, 218, rfl⟩
abbrev main_v135 : Ref sig .tc := ⟨.hbm, 219, rfl⟩
abbrev main_c_37 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_c_38 : Ref sig .tc := ⟨.hbm, 226, rfl⟩
abbrev main_v141 : Ref sig .tc := ⟨.hbm, 227, rfl⟩
abbrev main_c_39 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_c_40 : Ref sig .tc := ⟨.hbm, 234, rfl⟩
abbrev main_v147 : Ref sig .tc := ⟨.hbm, 235, rfl⟩
abbrev main_c_41 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_c_42 : Ref sig .tc := ⟨.hbm, 242, rfl⟩
abbrev main_v153 : Ref sig .tc := ⟨.hbm, 243, rfl⟩
abbrev main_c_43 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_c_44 : Ref sig .tc := ⟨.hbm, 250, rfl⟩
abbrev main_v159 : Ref sig .tc := ⟨.hbm, 251, rfl⟩
abbrev main_c_45 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_call7_v0 : Ref sig .tc := ⟨.hbm, 256, rfl⟩
abbrev main_call7_v1 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_call8_v0 : Ref sig .tc := ⟨.hbm, 266, rfl⟩
abbrev main_call8_v1 : Ref sig .tc := ⟨.hbm, 267, rfl⟩
abbrev main_call8_v2 : Ref sig .tc := ⟨.hbm, 268, rfl⟩
abbrev main_call8_v3 : Ref sig .tc := ⟨.hbm, 269, rfl⟩
abbrev main_call8_v4 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_c_46 : Ref sig .tc := ⟨.hbm, 275, rfl⟩
abbrev main_v172 : Ref sig .tc := ⟨.hbm, 276, rfl⟩
abbrev main_v173 : Ref sig .tc := ⟨.hbm, 277, rfl⟩
abbrev main_c_47 : Ref sig .tc := ⟨.hbm, 278, rfl⟩
abbrev main_v174 : Ref sig .tc := ⟨.hbm, 279, rfl⟩
abbrev main_v175 : Ref sig .tc := ⟨.hbm, 280, rfl⟩
abbrev main_c_48 : Ref sig .tc := ⟨.hbm, 281, rfl⟩
abbrev main_v176 : Ref sig .tc := ⟨.hbm, 282, rfl⟩
abbrev main_v177 : Ref sig .tc := ⟨.hbm, 283, rfl⟩
abbrev main_c_49 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_c_50 : Ref sig .tc := ⟨.hbm, 289, rfl⟩
abbrev main_v182 : Ref sig .tc := ⟨.hbm, 290, rfl⟩
abbrev main_v183 : Ref sig .tc := ⟨.hbm, 291, rfl⟩
abbrev main_c_51 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_v187 : Ref sig .tc := ⟨.hbm, 296, rfl⟩
abbrev main_v188 : Ref sig .tc := ⟨.hbm, 297, rfl⟩
abbrev main_v189 : Ref sig .tc := ⟨.hbm, 298, rfl⟩
abbrev main_v190 : Ref sig .tc := ⟨.hbm, 299, rfl⟩
abbrev main_v191 : Ref sig .tc := ⟨.hbm, 300, rfl⟩
abbrev main_c_52 : Ref sig .tc := ⟨.hbm, 301, rfl⟩
abbrev main_v192 : Ref sig .tc := ⟨.hbm, 302, rfl⟩
abbrev main_v193 : Ref sig .tc := ⟨.hbm, 303, rfl⟩
abbrev main_c_53 : Ref sig .tc := ⟨.hbm, 304, rfl⟩
abbrev main_v194 : Ref sig .tc := ⟨.hbm, 305, rfl⟩
abbrev main_v195 : Ref sig .tc := ⟨.hbm, 306, rfl⟩
abbrev main_c_54 : Ref sig .tc := ⟨.hbm, 307, rfl⟩
abbrev main_v196 : Ref sig .tc := ⟨.hbm, 308, rfl⟩
abbrev main_v197 : Ref sig .tc := ⟨.hbm, 309, rfl⟩
abbrev main_c_55 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_c_56 : Ref sig .tc := ⟨.hbm, 315, rfl⟩
abbrev main_v202 : Ref sig .tc := ⟨.hbm, 316, rfl⟩
abbrev main_v203 : Ref sig .tc := ⟨.hbm, 317, rfl⟩
abbrev main_c_57 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x416x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x256x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x400x96 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S64x4x400 : Shape := ⟨3, ![64, 4, 400]⟩
abbrev S4x4x64 : Shape := ⟨3, ![4, 4, 64]⟩
abbrev S4x64 : Shape := ⟨2, ![4, 64]⟩
abbrev S4x128x1 : Shape := ⟨3, ![4, 128, 1]⟩
abbrev S4x1 : Shape := ⟨2, ![4, 1]⟩
abbrev S4x256x12 : Shape := ⟨3, ![4, 256, 12]⟩
abbrev S4x12 : Shape := ⟨2, ![4, 12]⟩
abbrev S4x24x1 : Shape := ⟨3, ![4, 24, 1]⟩
abbrev S400x8 : Shape := ⟨2, ![400, 8]⟩
abbrev S64x400x4 : Shape := ⟨3, ![64, 400, 4]⟩
abbrev S4x64x64x400 : Shape := ⟨4, ![4, 64, 64, 400]⟩
abbrev S64x4x400x64 : Shape := ⟨4, ![64, 4, 400, 64]⟩
abbrev S1x4x1x64 : Shape := ⟨4, ![1, 4, 1, 64]⟩
abbrev S_ : Shape := ⟨0, ![]⟩
abbrev S400x8x1 : Shape := ⟨3, ![400, 8, 1]⟩
abbrev S64x4x400x8x64 : Shape := ⟨5, ![64, 4, 400, 8, 64]⟩
abbrev S64x4x400x1x64 : Shape := ⟨5, ![64, 4, 400, 1, 64]⟩
abbrev S64x4x400x8x128 : Shape := ⟨5, ![64, 4, 400, 8, 128]⟩
abbrev S4x1x64x400x8 : Shape := ⟨5, ![4, 1, 64, 400, 8]⟩
abbrev S64x4x400x8x1 : Shape := ⟨5, ![64, 4, 400, 8, 1]⟩
abbrev S1x4x1x1x1 : Shape := ⟨5, ![1, 4, 1, 1, 1]⟩
abbrev S64x4x400x8 : Shape := ⟨4, ![64, 4, 400, 8]⟩
abbrev S64x4x400x1 : Shape := ⟨4, ![64, 4, 400, 1]⟩
abbrev S64x400x64x4 : Shape := ⟨4, ![64, 400, 64, 4]⟩
abbrev S64x400x256 : Shape := ⟨3, ![64, 400, 256]⟩
abbrev S64x256x400 : Shape := ⟨3, ![64, 256, 400]⟩
abbrev S4x12x64x400 : Shape := ⟨4, ![4, 12, 64, 400]⟩
abbrev S64x4x400x12 : Shape := ⟨4, ![64, 4, 400, 12]⟩
abbrev S1x4x1x12 : Shape := ⟨4, ![1, 4, 1, 12]⟩
abbrev S64x4x400x8x12 : Shape := ⟨5, ![64, 4, 400, 8, 12]⟩
abbrev S64x4x400x1x12 : Shape := ⟨5, ![64, 4, 400, 1, 12]⟩
abbrev S64x4x400x8x24 : Shape := ⟨5, ![64, 4, 400, 8, 24]⟩
abbrev S64x400x12x4 : Shape := ⟨4, ![64, 400, 12, 4]⟩
abbrev S64x400x12 : Shape := ⟨3, ![64, 400, 12]⟩
abbrev S64x400x1x12 : Shape := ⟨4, ![64, 400, 1, 12]⟩
abbrev S64x12x400x1 : Shape := ⟨4, ![64, 12, 400, 1]⟩
abbrev S64x12x400 : Shape := ⟨3, ![64, 12, 400]⟩

abbrev nBuf : Space → Nat
  | .hbm => 121
  | .vmem => 0
  | .smem => 0
  | _ => 0

abbrev bufTy : (tb : Table) → Fin (tcTables nBuf tb) → BufTy
  | .hbm, ⟨0, _⟩ => ⟨S64x4x400, .f32⟩
  | .hbm, ⟨1, _⟩ => ⟨S4x4x64, .f32⟩
  | .hbm, ⟨2, _⟩ => ⟨S4x64, .f32⟩
  | .hbm, ⟨3, _⟩ => ⟨S4x128x1, .f32⟩
  | .hbm, ⟨4, _⟩ => ⟨S4x1, .f32⟩
  | .hbm, ⟨5, _⟩ => ⟨S4x256x12, .f32⟩
  | .hbm, ⟨6, _⟩ => ⟨S4x12, .f32⟩
  | .hbm, ⟨7, _⟩ => ⟨S4x24x1, .f32⟩
  | .hbm, ⟨8, _⟩ => ⟨S4x1, .f32⟩
  | .hbm, ⟨9, _⟩ => ⟨S400x8, .i32⟩
  | .hbm, ⟨10, _⟩ => ⟨S64x400x4, .f32⟩
  | .hbm, ⟨11, _⟩ => ⟨S4x64x64x400, .f32⟩
  | .hbm, ⟨12, _⟩ => ⟨S64x4x400x64, .f32⟩
  | .hbm, ⟨13, _⟩ => ⟨S1x4x1x64, .f32⟩
  | .hbm, ⟨14, _⟩ => ⟨S64x4x400x64, .f32⟩
  | .hbm, ⟨15, _⟩ => ⟨S64x4x400x64, .f32⟩
  | .hbm, ⟨16, _⟩ => ⟨S_, .i32⟩
  | .hbm, ⟨17, _⟩ => ⟨S400x8, .i32⟩
  | .hbm, ⟨18, _⟩ => ⟨S400x8, .i1⟩
  | .hbm, ⟨19, _⟩ => ⟨S_, .i32⟩
  | .hbm, ⟨20, _⟩ => ⟨S400x8, .i32⟩
  | .hbm, ⟨21, _⟩ => ⟨S400x8, .i32⟩
  | .hbm, ⟨22, _⟩ => ⟨S400x8, .i32⟩
  | .hbm, ⟨23, _⟩ => ⟨S400x8x1, .i32⟩
  | .hbm, ⟨24, _⟩ => ⟨S64x4x400x8x64, .f32⟩
  | .hbm, ⟨25, _⟩ => ⟨S64x4x400x1x64, .f32⟩
  | .hbm, ⟨26, _⟩ => ⟨S64x4x400x8x64, .f32⟩
  | .hbm, ⟨27, _⟩ => ⟨S64x4x400x8x128, .f32⟩
  | .hbm, ⟨28, _⟩ => ⟨S4x1x64x400x8, .f32⟩
  | .hbm, ⟨29, _⟩ => ⟨S64x4x400x8x1, .f32⟩
  | .hbm, ⟨30, _⟩ => ⟨S1x4x1x1x1, .f32⟩
  | .hbm, ⟨31, _⟩ => ⟨S64x4x400x8x1, .f32⟩
  | .hbm, ⟨32, _⟩ => ⟨S64x4x400x8x1, .f32⟩
  | .hbm, ⟨33, _⟩ => ⟨S64x4x400x8, .f32⟩
  | .hbm, ⟨34, _⟩ => ⟨S_, .f32⟩
  | .hbm, ⟨35, _⟩ => ⟨S_, .f32⟩
  | .hbm, ⟨36, _⟩ => ⟨S64x4x400x8, .f32⟩
  | .hbm, ⟨37, _⟩ => ⟨S64x4x400x8, .i1⟩
  | .hbm, ⟨38, _⟩ => ⟨S_, .f32⟩
  | .hbm, ⟨39, _⟩ => ⟨S64x4x400x8, .f32⟩
  | .hbm, ⟨40, _⟩ => ⟨S64x4x400x8, .f32⟩
  | .hbm, ⟨41, _⟩ => ⟨S64x4x400x8, .f32⟩
  | .hbm, ⟨42, _⟩ => ⟨S_, .f32⟩
  | .hbm, ⟨43, _⟩ => ⟨S64x4x400, .f32⟩
  | .hbm, ⟨44, _⟩ => ⟨S_, .f32⟩
  | .hbm, ⟨45, _⟩ => ⟨S64x4x400, .f32⟩
  | .hbm, ⟨46, _⟩ => ⟨S64x4x400, .f32⟩
  | .hbm, ⟨47, _⟩ => ⟨S64x4x400x1, .f32⟩
  | .hbm, ⟨48, _⟩ => ⟨S64x4x400x8, .f32⟩
  | .hbm, ⟨49, _⟩ => ⟨S64x4x400x8, .f32⟩
  | .hbm, ⟨50, _⟩ => ⟨S64x4x400x8, .f32⟩
  | .hbm, ⟨51, _⟩ => ⟨S_, .f32⟩
  | .hbm, ⟨52, _⟩ => ⟨S64x4x400, .f32⟩
  | .hbm, ⟨53, _⟩ => ⟨S64x4x400x1, .f32⟩
  | .hbm, ⟨54, _⟩ => ⟨S64x4x400x8, .f32⟩
  | .hbm, ⟨55, _⟩ => ⟨S64x4x400x8, .f32⟩
  | .hbm, ⟨56, _⟩ => ⟨S64x4x400x8x1, .f32⟩
  | .hbm, ⟨57, _⟩ => ⟨S64x4x400x8x64, .f32⟩
  | .hbm, ⟨58, _⟩ => ⟨S64x4x400x8x64, .f32⟩
  | .hbm, ⟨59, _⟩ => ⟨S_, .f32⟩
  | .hbm, ⟨60, _⟩ => ⟨S64x4x400x64, .f32⟩
  | .hbm, ⟨61, _⟩ => ⟨S64x400x64x4, .f32⟩
  | .hbm, ⟨62, _⟩ => ⟨S64x400x256, .f32⟩
  | .hbm, ⟨63, _⟩ => ⟨S64x256x400, .f32⟩
  | .hbm, ⟨64, _⟩ => ⟨S64x400x256, .f32⟩
  | .hbm, ⟨65, _⟩ => ⟨S4x12x64x400, .f32⟩
  | .hbm, ⟨66, _⟩ => ⟨S64x4x400x12, .f32⟩
  | .hbm, ⟨67, _⟩ => ⟨S1x4x1x12, .f32⟩
  | .hbm, ⟨68, _⟩ => ⟨S64x4x400x12, .f32⟩
  | .hbm, ⟨69, _⟩ => ⟨S64x4x400x12, .f32⟩
  | .hbm, ⟨70, _⟩ => ⟨S_, .i32⟩
  | .hbm, ⟨71, _⟩ => ⟨S400x8, .i32⟩
  | .hbm, ⟨72, _⟩ => ⟨S400x8, .i1⟩
  | .hbm, ⟨73, _⟩ => ⟨S_, .i32⟩
  | .hbm, ⟨74, _⟩ => ⟨S400x8, .i32⟩
  | .hbm, ⟨75, _⟩ => ⟨S400x8, .i32⟩
  | .hbm, ⟨76, _⟩ => ⟨S400x8, .i32⟩
  | .hbm, ⟨77, _⟩ => ⟨S400x8x1, .i32⟩
  | .hbm, ⟨78, _⟩ => ⟨S64x4x400x8x12, .f32⟩
  | .hbm, ⟨79, _⟩ => ⟨S64x4x400x1x12, .f32⟩
  | .hbm, ⟨80, _⟩ => ⟨S64x4x400x8x12, .f32⟩
  | .hbm, ⟨81, _⟩ => ⟨S64x4x400x8x24, .f32⟩
  | .hbm, ⟨82, _⟩ => ⟨S4x1x64x400x8, .f32⟩
  | .hbm, ⟨83, _⟩ => ⟨S64x4x400x8x1, .f32⟩
  | .hbm, ⟨84, _⟩ => ⟨S1x4x1x1x1, .f32⟩
  | .hbm, ⟨85, _⟩ => ⟨S64x4x400x8x1, .f32⟩
  | .hbm, ⟨86, _⟩ => ⟨S64x4x400x8x1, .f32⟩
  | .hbm, ⟨87, _⟩ => ⟨S64x4x400x8, .f32⟩
  | .hbm, ⟨88, _⟩ => ⟨S_, .f32⟩
  | .hbm, ⟨89, _⟩ => ⟨S_, .f32⟩
  | .hbm, ⟨90, _⟩ => ⟨S64x4x400x8, .f32⟩
  | .hbm, ⟨91, _⟩ => ⟨S64x4x400x8, .i1⟩
  | .hbm, ⟨92, _⟩ => ⟨S_, .f32⟩
  | .hbm, ⟨93, _⟩ => ⟨S64x4x400x8, .f32⟩
  | .hbm, ⟨94, _⟩ => ⟨S64x4x400x8, .f32⟩
  | .hbm, ⟨95, _⟩ => ⟨S64x4x400x8, .f32⟩
  | .hbm, ⟨96, _⟩ => ⟨S_, .f32⟩
  | .hbm, ⟨97, _⟩ => ⟨S64x4x400, .f32⟩
  | .hbm, ⟨98, _⟩ => ⟨S_, .f32⟩
  | .hbm, ⟨99, _⟩ => ⟨S64x4x400, .f32⟩
  | .hbm, ⟨100, _⟩ => ⟨S64x4x400, .f32⟩
  | .hbm, ⟨101, _⟩ => ⟨S64x4x400x1, .f32⟩
  | .hbm, ⟨102, _⟩ => ⟨S64x4x400x8, .f32⟩
  | .hbm, ⟨103, _⟩ => ⟨S64x4x400x8, .f32⟩
  | .hbm, ⟨104, _⟩ => ⟨S64x4x400x8, .f32⟩
  | .hbm, ⟨105, _⟩ => ⟨S_, .f32⟩
  | .hbm, ⟨106, _⟩ => ⟨S64x4x400, .f32⟩
  | .hbm, ⟨107, _⟩ => ⟨S64x4x400x1, .f32⟩
  | .hbm, ⟨108, _⟩ => ⟨S64x4x400x8, .f32⟩
  | .hbm, ⟨109, _⟩ => ⟨S64x4x400x8, .f32⟩
  | .hbm, ⟨110, _⟩ => ⟨S64x4x400x8x1, .f32⟩
  | .hbm, ⟨111, _⟩ => ⟨S64x4x400x8x12, .f32⟩
  | .hbm, ⟨112, _⟩ => ⟨S64x4x400x8x12, .f32⟩
  | .hbm, ⟨113, _⟩ => ⟨S_, .f32⟩
  | .hbm, ⟨114, _⟩ => ⟨S64x4x400x12, .f32⟩
  | .hbm, ⟨115, _⟩ => ⟨S64x400x12x4, .f32⟩
  | .hbm, ⟨116, _⟩ => ⟨S_, .f32⟩
  | .hbm, ⟨117, _⟩ => ⟨S64x400x12, .f32⟩
  | .hbm, ⟨118, _⟩ => ⟨S64x400x1x12, .f32⟩
  | .hbm, ⟨119, _⟩ => ⟨S64x12x400x1, .f32⟩
  | .hbm, ⟨120, _⟩ => ⟨S64x12x400, .f32⟩
  | _, _ => ⟨S64x4x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_5 : Ref sig .tc := ⟨.hbm, 70, rfl⟩
abbrev main_v47 : Ref sig .tc := ⟨.hbm, 71, rfl⟩
abbrev main_v48 : Ref sig .tc := ⟨.hbm, 72, rfl⟩
abbrev main_c_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_7 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_v63 : Ref sig .tc := ⟨.hbm, 95, rfl⟩
abbrev main_cst_8 : Ref sig .tc := ⟨.hbm, 96, rfl⟩
abbrev main_v64 : Ref sig .tc := ⟨.hbm, 97, rfl⟩
abbrev main_cst_9 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_10 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_11 : Ref sig .tc := ⟨.hbm, 113, rfl⟩
abbrev main_v78 : Ref sig .tc := ⟨.hbm, 114, rfl⟩
abbrev main_v79 : Ref sig .tc := ⟨.hbm, 115, rfl⟩
abbrev main_cst_12 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩

abbrev nD : Nat := 1
abbrev τ : Topo := Topo.v7x

variable {F : FTy → Type} [FloatOps F]
-- ==== Proof.Lane.lean ====
/- Arrays whose lanes hold eight batches side by side, and how the operations of a program act on them.

   A row of such an array holds, for each column `j`, the eight batches' values at lanes `8 j, …, 8 j + 7`. The
   operations on vectors keep that layout: an elementwise operation acts on each batch alone, a slice that starts at a
   multiple of eight lanes moves the columns, and a product with a matrix that is a small matrix spread over the eight
   batches (`spread`) is the small product of each batch. -/
module

public import Idealize.ShloMosaic.PureOps.Ideal
public import Idealize.ShloMosaic.PureOps.Ideal.Laws
public import Idealize.ShloMosaic.Lib.MatmulPlain
public import Idealize.ShloMosaic.Lib.Pointwise
public import Mathlib.Tactic.Ring
public import Mathlib.Tactic.Linarith
public import Mathlib.Data.EReal.Operations

@[expose] public section

noncomputable section

namespace Cert.Gat

open Idealize.ShloMosaic
open scoped BigOperators

/-! ## Sums of reals among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- The slope of the leaky unit below zero: the real number its printed pattern denotes. -/
def slope : ℝ := 13421773 * (2 ^ 26)⁻¹

theorem ofBits_slope : Ideal.ofBits .f32 0x3E4CCCCD#32 = ((slope : ℝ) : EReal) := by
  simp [Ideal.ofBits, Ideal.ieee, slope]

def leaky (x : ℝ) : ℝ := if 0 ≤ x then x else slope * x

/-! ## The layout -/

/-- `A b r j` at row `r`, lane `8 j + b`. -/
def lane (R L : ℕ) (A : ℕ → ℕ → ℕ → ℝ) : FVec Ideal ⟨2, ![R, L]⟩ .f32 :=
  fun i => ((A ((i 1).val % 8) (i 0).val ((i 1).val / 8) : ℝ) : EReal)

/-- One row, the same for each of the eight batches. -/
def row (L : ℕ) (f : ℕ → ℝ) : FVec Ideal ⟨2, ![1, L]⟩ .f32 := fun i => ((f ((i 1).val / 8) : ℝ) : EReal)

/-- The matrix `M` acting on each of the eight batches alone. -/
def spread (P Q : ℕ) (M : ℕ → ℕ → ℝ) : FVec Ideal ⟨2, ![P, Q]⟩ .f32 :=
  fun i => ((if (i 0).val % 8 = (i 1).val % 8 then M ((i 0).val / 8) ((i 1).val / 8) else 0 : ℝ) : EReal)

theorem lane_congr {R L : ℕ} {A B : ℕ → ℕ → ℕ → ℝ}
    (h : ∀ b r j, b < 8 → r < R → j < (L + 7) / 8 → A b r j = B b r j) : lane R L A = lane R L B := by
  funext i
  have h0 : (i 0).val < R := (i 0).isLt
  have h1 : (i 1).val < L := (i 1).isLt
  exact congrArg _ (h _ _ _ (Nat.mod_lt _ (by omega)) h0 (by omega))

/-! ## Elementwise operations -/

section
variable {R L : ℕ} (A B : ℕ → ℕ → ℕ → ℝ)

theorem addf_lane : addf (lane R L A) (lane R L B) = lane R L fun b r j => A b r j + B b r j := by
  funext i; exact (EReal.coe_add _ _).symm

theorem subf_lane : subf (lane R L A) (lane R L B) = lane R L fun b r j => A b r j - B b r j := by
  funext i; exact (EReal.coe_sub _ _).symm

theorem mulf_lane : mulf (lane R L A) (lane R L B) = lane R L fun b r j => A b r j * B b r j := by
  funext i; exact (EReal.coe_mul _ _).symm

theorem maximumf_lane : maximumf (lane R L A) (lane R L B) = lane R L fun b r j => max (A b r j) (B b r j) := by
  funext i; exact (coe_max _ _).symm

theorem exp_lane : exp (lane R L A) = lane R L fun b r j => Real.exp (A b r j) := by
  funext i; rfl

theorem divf_lane (h : ∀ b r j, b < 8 → r < R → j < (L + 7) / 8 → B b r j ≠ 0) :
    divf (lane R L A) (lane R L B) = lane R L fun b r j => A b r j / B b r j := by
  funext i
  have h0 : (i 0).val < R := (i 0).isLt
  have h1 : (i 1).val < L := (i 1).isLt
  have hne := h ((i 1).val % 8) (i 0).val ((i 1).val / 8) (Nat.mod_lt _ (by omega)) h0 (by omega)
  show Ideal.div (lane R L A i) (lane R L B i) = _
  unfold lane
  rw [Ideal.div_coe hne, ← EReal.coe_mul, mul_one_div]

/-- Narrowing and widening change nothing over the extended reals. -/
theorem extf_truncf {S : Shape} (v : FVec Ideal S .f32) (h h' : FTy.bits .bf16 < FTy.bits .f32) :
    extf .f32 (truncf .bf16 v h) h' = v := rfl

theorem leaky_lane : select (cmpf .oge (lane R L A) (broadcast _ (Scalar.ofBits .f32 0x00000000#32))) (lane R L A)
      (mulf (broadcast _ (Scalar.ofBits .f32 0x3E4CCCCD#32)) (lane R L A))
    = lane R L fun b r j => leaky (A b r j) := by
  funext i
  have e1 : cmpf .oge (lane R L A) (broadcast _ (Scalar.ofBits .f32 0x00000000#32)) i
      = Ideal.cmp .oge (lane R L A i) (Ideal.ofBits .f32 0x00000000#32) := rfl
  have e2 : mulf (broadcast _ (Scalar.ofBits .f32 0x3E4CCCCD#32)) (lane R L A) i
      = Ideal.ofBits .f32 0x3E4CCCCD#32 * lane R L A i := rfl
  show (if cmpf .oge (lane R L A) (broadcast _ (Scalar.ofBits .f32 0x00000000#32)) i = 1#1 then lane R L A i else
    mulf (broadcast _ (Scalar.ofBits .f32 0x3E4CCCCD#32)) (lane R L A) i) = _
  rw [e1, e2, ofBits_slope, Ideal.ofBits_zero_f32]
  unfold lane leaky
  rw [← EReal.coe_zero, ← EReal.coe_mul]
  by_cases hx : (0 : ℝ) ≤ A ((i 1).val % 8) (i 0).val ((i 1).val / 8)
  · simp [Ideal.cmp, hx]
  · simp [Ideal.cmp, hx]

/-! ## Moves -/

theorem slice_lane {R' L' : ℕ} (r0 l0 : ℕ) (h : (⟨2, ![R, L]⟩ : Shape).Slices ![r0, l0] ⟨2, ![R', L']⟩) (h8 : l0 % 8 = 0) :
    extractStridedSlice ⟨2, ![R', L']⟩ ![r0, l0] (lane R L A) h = lane R' L' fun b r j => A b (r + r0) (j + l0 / 8) := by
  funext i
  show ((A ((l0 + (i 1).val) % 8) (r0 + (i 0).val) ((l0 + (i 1).val) / 8) : ℝ) : EReal) = _
  unfold lane
  rw [show (l0 + (i 1).val) % 8 = (i 1).val % 8 by omega, show (l0 + (i 1).val) / 8 = (i 1).val / 8 + l0 / 8 by omega,
    Nat.add_comm r0]

theorem broadcastTo_row (f : ℕ → ℝ) (hL : L ≠ 1) (h : (⟨2, ![1, L]⟩ : Shape).Broadcasts ⟨2, ![R, L]⟩) :
    broadcastTo ⟨2, ![R, L]⟩ (row L f) h = lane R L fun _ _ j => f j := by
  funext i
  show row L f _ = _
  unfold row lane
  refine congrArg (fun n : ℕ => ((f (n / 8) : ℝ) : EReal)) ?_
  simp [hL]

end

/-! ## Products -/

theorem sum_eight (K : ℕ) (f : ℕ → ℝ) : ∑ k ∈ Finset.range (8 * K), f k
    = ∑ i ∈ Finset.range K, (f (8 * i) + f (8 * i + 1) + f (8 * i + 2) + f (8 * i + 3) + f (8 * i + 4) + f (8 * i + 5)
        + f (8 * i + 6) + f (8 * i + 7)) := by
  induction K with
  | zero => simp
  | succ K ih =>
    rw [Finset.sum_range_succ, ← ih, show 8 * (K + 1) = 8 * K + 1 + 1 + 1 + 1 + 1 + 1 + 1 + 1 by ring]
    simp only [Finset.sum_range_succ]
    ring

theorem sum_spread (K : ℕ) (b : ℕ) (hb : b < 8) (f : ℕ → ℕ → ℝ) (M : ℕ → ℝ) :
    ∑ k ∈ Finset.range (8 * K), f (k % 8) (k / 8) * (if k % 8 = b then M (k / 8) else 0)
      = ∑ i ∈ Finset.range K, f b i * M i := by
  rw [sum_eight]
  refine Finset.sum_congr rfl fun i _ => ?_
  have e : ∀ c, c < 8 → (8 * i + c) % 8 = c ∧ (8 * i + c) / 8 = i := fun c hc => ⟨by omega, by omega⟩
  have e0 : (8 * i) % 8 = 0 ∧ (8 * i) / 8 = i := ⟨by omega, by omega⟩
  simp only [e0.1, e0.2, (e 1 (by omega)).1, (e 1 (by omega)).2, (e 2 (by omega)).1, (e 2 (by omega)).2,
    (e 3 (by omega)).1, (e 3 (by omega)).2, (e 4 (by omega)).1, (e 4 (by omega)).2, (e 5 (by omega)).1,
    (e 5 (by omega)).2, (e 6 (by omega)).1, (e 6 (by omega)).2, (e 7 (by omega)).1, (e 7 (by omega)).2]
  interval_cases b <;> simp

theorem matmul_lane {R P Q : ℕ} (A : ℕ → ℕ → ℕ → ℝ) (M : ℕ → ℕ → ℝ) (hP : P % 8 = 0) :
    matmul (DotDims.plain R P Q) none (lane R P A) (spread P Q M) (constant ⟨2, ![R, Q]⟩ .f32 0x00000000#32)
      = lane R Q fun b r j => ∑ i ∈ Finset.range (P / 8), A b r i * M i j := by
  have at_ix : ∀ (r : Fin R) (c : Fin Q),
      matmul (DotDims.plain R P Q) none (lane R P A) (spread P Q M) (constant ⟨2, ![R, Q]⟩ .f32 0x00000000#32)
        (ValueIdx.ix2 r c) = ((∑ i ∈ Finset.range (P / 8), A (c.val % 8) r.val i * M i (c.val / 8) : ℝ) : EReal) := by
    intro r c
    refine (Ideal.matmul_plain_apply none _ _ _ r c).trans ?_
    have hz : (constant ⟨2, ![R, Q]⟩ .f32 0x00000000#32 : FVec Ideal ⟨2, ![R, Q]⟩ .f32) (ValueIdx.ix2 r c) = 0 :=
      Ideal.ofBits_zero_f32
    rw [hz, zero_add]
    have key := sum_spread (P / 8) (c.val % 8) (Nat.mod_lt _ (by omega)) (fun b i => A b r.val i)
      (fun i => M i (c.val / 8))
    rw [show 8 * (P / 8) = P by omega] at key
    rw [← key, Finset.sum_range, coe_sum]
    refine Finset.sum_congr rfl fun k _ => ?_
    exact (EReal.coe_mul _ _).symm
  funext j
  have hj : j = ValueIdx.ix2 (n0 := R) (n1 := Q) (j 0) (j 1) := by
    funext a
    match a with
    | ⟨0, _⟩ => rfl
    | ⟨1, _⟩ => rfl
  rw [hj]
  exact at_ix _ _

/-! ## Eight pieces side by side -/

/-- Eight arrays of 32 lanes side by side. -/
def eight {R : ℕ} (v0 v1 v2 v3 v4 v5 v6 v7 : FVec Ideal ⟨2, ![R, 32]⟩ .f32) : FVec Ideal ⟨2, ![R, 256]⟩ .f32 := fun j =>
  (![v0, v1, v2, v3, v4, v5, v6, v7] : Fin 8 → FVec Ideal ⟨2, ![R, 32]⟩ .f32) (Fin.ofNat 8 ((j 1).val / 32))
    (ValueIdx.ix2 (n0 := R) (n1 := 32) (j 0) ⟨(j 1).val % 32, Nat.mod_lt _ (by omega)⟩)

theorem concatenate_eight {R : ℕ} (v0 v1 v2 v3 v4 v5 v6 v7 : FVec Ideal ⟨2, ![R, 32]⟩ .f32)
    (h : Shape.Concatenates (([⟨⟨2, ![R, 32]⟩, v0⟩, ⟨⟨2, ![R, 32]⟩, v1⟩, ⟨⟨2, ![R, 32]⟩, v2⟩, ⟨⟨2, ![R, 32]⟩, v3⟩,
      ⟨⟨2, ![R, 32]⟩, v4⟩, ⟨⟨2, ![R, 32]⟩, v5⟩, ⟨⟨2, ![R, 32]⟩, v6⟩, ⟨⟨2, ![R, 32]⟩, v7⟩] :
        List ((s : Shape) × (s.Idx → Ideal .f32))).map (·.1)) ⟨2, ![R, 256]⟩ 1) :
    concatenate ⟨2, ![R, 256]⟩ 1 [⟨⟨2, ![R, 32]⟩, v0⟩, ⟨⟨2, ![R, 32]⟩, v1⟩, ⟨⟨2, ![R, 32]⟩, v2⟩, ⟨⟨2, ![R, 32]⟩, v3⟩,
      ⟨⟨2, ![R, 32]⟩, v4⟩, ⟨⟨2, ![R, 32]⟩, v5⟩, ⟨⟨2, ![R, 32]⟩, v6⟩, ⟨⟨2, ![R, 32]⟩, v7⟩] h
      = eight v0 v1 v2 v3 v4 v5 v6 v7 := by
  funext j
  have h1 : (j 1).val < 256 := (j 1).isLt
  refine (concatenate_ofFn_apply (t := ⟨2, ![R, 256]⟩) (s₁ := ⟨2, ![R, 32]⟩) 1
    (![v0, v1, v2, v3, v4, v5, v6, v7] : Fin 8 → FVec Ideal ⟨2, ![R, 32]⟩ .f32) h rfl 32 rfl j
    (Fin.ofNat 8 ((j 1).val / 32)) ?_
    (ValueIdx.ix2 (n0 := R) (n1 := 32) (j 0) ⟨(j 1).val % 32, Nat.mod_lt _ (by omega)⟩) rfl ?_).trans rfl
  · simp only [Fin.ofNat]; omega
  · intro b hb
    match b with
    | ⟨0, _⟩ => rfl
    | ⟨1, _⟩ => exact absurd rfl hb

theorem eight_lane {R : ℕ} (A0 A1 A2 A3 A4 A5 A6 A7 : ℕ → ℕ → ℕ → ℝ) :
    eight (lane R 32 A0) (lane R 32 A1) (lane R 32 A2) (lane R 32 A3) (lane R 32 A4) (lane R 32 A5) (lane R 32 A6) (lane R 32 A7)
      = lane R 256 fun b r j => (![A0, A1, A2, A3, A4, A5, A6, A7] : Fin 8 → ℕ → ℕ → ℕ → ℝ) (Fin.ofNat 8 (j / 4)) b r (j % 4) := by
  funext j
  have h1 : (j 1).val < 256 := (j 1).isLt
  have hp : ∀ d : Fin 8, (![lane R 32 A0, lane R 32 A1, lane R 32 A2, lane R 32 A3, lane R 32 A4, lane R 32 A5, lane R 32 A6,
      lane R 32 A7] : Fin 8 → FVec Ideal ⟨2, ![R, 32]⟩ .f32) d
      = lane R 32 ((![A0, A1, A2, A3, A4, A5, A6, A7] : Fin 8 → ℕ → ℕ → ℕ → ℝ) d) := by
    intro d; fin_cases d <;> rfl
  show (![lane R 32 A0, lane R 32 A1, lane R 32 A2, lane R 32 A3, lane R 32 A4, lane R 32 A5, lane R 32 A6,
    lane R 32 A7] : Fin 8 → FVec Ideal ⟨2, ![R, 32]⟩ .f32) (Fin.ofNat 8 ((j 1).val / 32)) _ = _
  rw [hp]
  show (((![A0, A1, A2, A3, A4, A5, A6, A7] : Fin 8 → ℕ → ℕ → ℕ → ℝ) (Fin.ofNat 8 ((j 1).val / 32)) ((j 1).val % 32 % 8)
    (j 0).val ((j 1).val % 32 / 8) : ℝ) : EReal) = (((![A0, A1, A2, A3, A4, A5, A6, A7] : Fin 8 → ℕ → ℕ → ℕ → ℝ)
      (Fin.ofNat 8 ((j 1).val / 8 / 4)) ((j 1).val % 8) (j 0).val ((j 1).val / 8 % 4) : ℝ) : EReal)
  rw [show (j 1).val % 32 % 8 = (j 1).val % 8 by omega, show (j 1).val % 32 / 8 = (j 1).val / 8 % 4 by omega,
    show (j 1).val / 8 / 4 = (j 1).val / 32 by omega]

end Cert.Gat

end
-- ==== Proof.Layer.lean ====
/- The computation of the kernel for one batch, over reals indexed by row and column.

   A row is a node of the ring; the rows run past the ring's two ends, so that a node's neighbours are the rows near it. -/
module

public import proofs.«01_k».proof.Proof.Lane
public import Mathlib.Analysis.SpecialFunctions.Exp

@[expose] public section

noncomputable section

namespace Cert.Gat

open scoped BigOperators

/-- How many rows below a row's own first neighbour row the neighbour of direction `d` lies: the four rows after it and
    then the four before it, counted from four rows above. -/
def sh (d : ℕ) : ℕ := if d < 4 then 5 + d else 7 - d

/-- The product of the first `K` columns of `x` with `w`. -/
def dense (K : ℕ) (x w : ℕ → ℕ → ℝ) (r j : ℕ) : ℝ := ∑ i ∈ Finset.range K, x r i * w i j

/-- The matrix that picks column `f j` for column `j`. -/
def sel (f : ℕ → ℕ) (i j : ℕ) : ℝ := if i = f j then 1 else 0

/-- The attention scores: column `4 d + k` is head `k`'s score of the neighbour in direction `d`. -/
def score (s : ℕ → ℕ → ℝ) (c : ℕ → ℝ) (r j : ℕ) : ℝ :=
  leaky (s (r + 4) (j % 4) + s (r + sh (j / 4)) (4 + j % 4) + c j)

/-- The largest score of head `k` over the eight directions. -/
def top (e : ℕ → ℕ → ℝ) (r k : ℕ) : ℝ :=
  max (max (max (e r k) (e r (k + 16))) (max (e r (k + 8)) (e r (k + 8 + 16))))
    (max (max (e r (k + 4)) (e r (k + 4 + 16))) (max (e r (k + 4 + 8)) (e r (k + 4 + 8 + 16))))

/-- The sum of head `k`'s weights over the eight directions. -/
def tot (e : ℕ → ℕ → ℝ) (r k : ℕ) : ℝ :=
  e r k + e r (k + 16) + (e r (k + 8) + e r (k + 8 + 16))
    + (e r (k + 4) + e r (k + 4 + 16) + (e r (k + 4 + 8) + e r (k + 4 + 8 + 16)))

/-- The weights before they are divided by their sum. -/
def weight (e : ℕ → ℕ → ℝ) (r j : ℕ) : ℝ := Real.exp (e r j - top e r (j % 4))

/-- The neighbours' rows of `h` summed under the weights `e`, column `c` under those of head `c / n`. -/
def gather (n : ℕ) (e h : ℕ → ℕ → ℝ) (r c : ℕ) : ℝ :=
  e r (c / n) * h (r + 5) c + e r (4 + c / n) * h (r + 6) c + e r (8 + c / n) * h (r + 7) c
    + e r (12 + c / n) * h (r + 8) c + e r (16 + c / n) * h (r + 3) c + e r (20 + c / n) * h (r + 2) c
    + e r (24 + c / n) * h (r + 1) c + e r (28 + c / n) * h r c

/-- The same, divided by the weights' sum. -/
def mix (n : ℕ) (e h : ℕ → ℕ → ℝ) (r c : ℕ) : ℝ := gather n e h r c / tot e r (c / n)

/-- The first layer's weights. -/
def weight1 (x wab : ℕ → ℕ → ℝ) (sb c : ℕ → ℝ) : ℕ → ℕ → ℝ :=
  weight (score (fun r j => dense 4 x wab r j + sb j) c)

/-- The second layer's features of one batch. -/
def feat2 (x wab w1 w2 : ℕ → ℕ → ℝ) (sb c b1 b2 : ℕ → ℝ) (r j : ℕ) : ℝ :=
  dense 256 (fun r h => dense 16 (mix 4 (weight1 x wab sb c) x) w1 r h + b1 h) w2 r j + b2 j

/-- The second layer's result for one head and one output column. -/
def attend2 (h ab : ℕ → ℕ → ℝ) (c : ℕ → ℝ) : ℕ → ℕ → ℝ := mix 12 (weight (score (dense 48 h ab) c)) h

/-- The heads added up. -/
def heads (o : ℕ → ℕ → ℝ) (r j : ℕ) : ℝ := o r j + o r (j + 24) + (o r (j + 12) + o r (j + 12 + 24))

theorem tot_pos {e : ℕ → ℕ → ℝ} (h : ∀ r j, 0 < e r j) (r k : ℕ) : 0 < tot e r k := by
  unfold tot
  have := h r k; have := h r (k + 16); have := h r (k + 8); have := h r (k + 8 + 16)
  have := h r (k + 4); have := h r (k + 4 + 16); have := h r (k + 4 + 8); have := h r (k + 4 + 8 + 16)
  linarith

theorem weight_pos (e : ℕ → ℕ → ℝ) (r j : ℕ) : 0 < weight e r j := Real.exp_pos _

end Cert.Gat

end
-- ==== Proof.Block.lean ====
/- The value of the kernel's body: from blocks that hold eight batches side by side, the block of each batch's result. -/
module

public import proofs.«01_k».proof.Proof.Layer
public import proofs.«01_k».proof.Proof.Gen.KernelIdeal.Frame
public import Idealize.ShloMosaic.Lib.Pipeline.ValueKit

@[expose] public section

set_option maxRecDepth 16384

noncomputable section

namespace Cert.Gat

open Idealize.ShloMosaic Cert.KernelIdeal Cert.KernelIdeal.Gen
open Cert.KernelIdeal.Facts Cert.KernelIdeal.Facts₀
open scoped BigOperators

/-! ## Blocks of three axes -/

/-- One chunk of eight batches. -/
def chunk (R L : ℕ) (A : ℕ → ℕ → ℕ → ℝ) : FVec Ideal ⟨3, ![1, R, L]⟩ .f32 :=
  fun i => ((A ((i 2).val % 8) (i 1).val ((i 2).val / 8) : ℝ) : EReal)

/-- Eight spread matrices, one for each direction. -/
def spreads (P Q : ℕ) (M : ℕ → ℕ → ℕ → ℝ) : FVec Ideal ⟨3, ![8, P, Q]⟩ .f32 :=
  fun i => ((if (i 1).val % 8 = (i 2).val % 8 then M (i 0).val ((i 1).val / 8) ((i 2).val / 8) else 0 : ℝ) : EReal)

theorem ld_whole {S : Shape} (X : Vec Ideal S .f32) (off : Fin S.rank → ℕ) (h : ∀ a, off a = 0) (inb) :
    View.ld (Val := Elt Ideal) (e' := .f32) X (Rect.unit (s := S) off S.size inb) = X := by
  funext x
  refine congrArg X ?_
  funext a
  apply Fin.ext
  refine (Rect.idx_unit_val ..).trans ?_
  rw [h a, Nat.zero_add]

theorem shapeCast_chunk {R L : ℕ} (A : ℕ → ℕ → ℕ → ℝ) (h : (⟨3, ![1, R, L]⟩ : Shape).ShapeCasts ⟨2, ![R, L]⟩) :
    shapeCast ⟨2, ![R, L]⟩ (chunk R L A) h = lane R L A := by
  funext j
  exact (shapeCast_dropUnit_apply ![R, L] (chunk R L A) h j).trans rfl

theorem shapeCast_lane {R L : ℕ} (A : ℕ → ℕ → ℕ → ℝ) (h : (⟨2, ![R, L]⟩ : Shape).ShapeCasts ⟨3, ![1, R, L]⟩) :
    shapeCast ⟨3, ![1, R, L]⟩ (lane R L A) h = chunk R L A := by
  funext j
  exact (shapeCast_addUnit_apply ![R, L] (lane R L A) h j).trans rfl

theorem shapeCast_slab {P Q : ℕ} (M : ℕ → ℕ → ℕ → ℝ) (d : ℕ) (inb)
    (h : (⟨3, ![1, P, Q]⟩ : Shape).ShapeCasts ⟨2, ![P, Q]⟩) :
    shapeCast ⟨2, ![P, Q]⟩ (View.ld (Val := Elt Ideal) (e' := .f32) (spreads P Q M)
      (Rect.unit (s := ⟨3, ![8, P, Q]⟩) ![d, 0, 0] ![1, P, Q] inb)) h = spread P Q (M d) := by
  funext j
  refine (shapeCast_dropUnit_apply ![P, Q] (View.ld (Val := Elt Ideal) (e' := .f32) (spreads P Q M)
    (Rect.unit (s := ⟨3, ![8, P, Q]⟩) ![d, 0, 0] ![1, P, Q] inb)) h j).trans ?_
  unfold View.ld spreads spread
  simp only [Rect.idx_unit_val]
  show ((if (0 + (j 0).val) % 8 = (0 + (j 1).val) % 8 then M (d + 0) ((0 + (j 0).val) / 8) ((0 + (j 1).val) / 8) else 0 : ℝ)
    : EReal) = _
  simp only [Nat.zero_add, Nat.add_zero]

/-! ## The products' dimension numbers are the plain ones -/

theorem dot_a : dot_S416x32_S32x64_S416x64_1_0_0_1_n_n = DotDims.plain 416 32 64 := rfl
theorem dot_b : dot_S408x32_S32x256_S408x256_1_0_0_1_n_n = DotDims.plain 408 32 256 := rfl
theorem dot_c : dot_S408x32_S32x128_S408x128_1_0_0_1_n_n = DotDims.plain 408 32 128 := rfl
theorem dot_d : dot_S408x256_S256x128_S408x128_1_0_0_1_n_n = DotDims.plain 408 256 128 := rfl
theorem dot_e : dot_S408x128_S128x2048_S408x2048_1_0_0_1_n_n = DotDims.plain 408 128 2048 := rfl
theorem dot_f : dot_S408x2048_S2048x384_S408x384_1_0_0_1_n_n = DotDims.plain 408 2048 384 := rfl
theorem dot_g : dot_S408x384_S384x64_S408x64_1_0_0_1_n_n = DotDims.plain 408 384 64 := rfl
theorem dot_h : dot_S400x32_S32x256_S400x256_1_0_0_1_n_n = DotDims.plain 400 32 256 := rfl
theorem dot_i : dot_S400x32_S32x384_S400x384_1_0_0_1_n_n = DotDims.plain 400 32 384 := rfl
theorem dot_j : dot_S400x256_S256x384_S400x384_1_0_0_1_n_n = DotDims.plain 400 256 384 := rfl

/-! ## The first layer -/

theorem pay2_eq (x : ℕ → ℕ → ℕ → ℝ) : k0_pay2 (F := Ideal) (chunk 416 128 x) = lane 416 128 x := by
  dsimp only [k0_pay2]
  exact shapeCast_chunk x _

/-- Eight columns of four: column `j` is column `j % 4` of piece `j / 4`. -/
theorem pieces {A : Fin 8 → ℕ → ℕ → ℕ → ℝ} {B : ℕ → ℕ → ℕ → ℝ} {b r j : ℕ} (hj : j < 32)
    (h : ∀ d : Fin 8, j / 4 = d.val → A d b r (j % 4) = B b r j) : A (Fin.ofNat 8 (j / 4)) b r (j % 4) = B b r j :=
  h _ (by simp only [Fin.ofNat]; omega)

/-- The scores of the eight directions side by side. -/
theorem eight_scores {R : ℕ} (s : ℕ → ℕ → ℕ → ℝ) :
    eight (lane R 32 fun b r j => s b (r + 4) j + s b (r + 5) (j + 4))
        (lane R 32 fun b r j => s b (r + 4) j + s b (r + 6) (j + 4))
        (lane R 32 fun b r j => s b (r + 4) j + s b (r + 7) (j + 4))
        (lane R 32 fun b r j => s b (r + 4) j + s b (r + 8) (j + 4))
        (lane R 32 fun b r j => s b (r + 4) j + s b (r + 3) (j + 4))
        (lane R 32 fun b r j => s b (r + 4) j + s b (r + 2) (j + 4))
        (lane R 32 fun b r j => s b (r + 4) j + s b (r + 1) (j + 4))
        (lane R 32 fun b r j => s b (r + 4) j + s b r (j + 4))
      = lane R 256 fun b r j => s b (r + 4) (j % 4) + s b (r + sh (j / 4)) (4 + j % 4) := by
  rw [eight_lane]
  refine lane_congr fun b r j hb hr hj => ?_
  refine pieces (by omega) (B := fun b r j => s b (r + 4) (j % 4) + s b (r + sh (j / 4)) (4 + j % 4)) fun d hd => ?_
  rw [hd]
  fin_cases d <;> simp [sh, Nat.add_comm]

theorem pay3_eq (x : ℕ → ℕ → ℕ → ℝ) (w : ℕ → ℕ → ℝ) (sb c : ℕ → ℝ) :
    k0_pay3 (F := Ideal) (chunk 416 128 x) (spread 32 64 w) (row 64 sb) (row 256 c)
      = lane 408 256 fun b => score (fun r j => dense 4 (x b) w r j + sb j) c := by
  dsimp only [k0_pay3]
  simp (disch := (intros; omega)) only [pay2_eq, shapeCast_self, dot_a, slice_lane, matmul_lane, broadcastTo_row, addf_lane,
    concatenate_eight, Nat.add_zero, Nat.zero_div, Nat.reduceDiv]
  have e := eight_scores (R := 408) fun b r j => ∑ i ∈ Finset.range 4, x b r i * w i j + sb j
  rw [e]
  simp (disch := (intros; omega)) only [addf_lane, leaky_lane]
  rfl

theorem pay4_eq (x : ℕ → ℕ → ℕ → ℝ) (w : ℕ → ℕ → ℝ) (sb c : ℕ → ℝ) :
    k0_pay4 (F := Ideal) (chunk 416 128 x) (spread 32 64 w) (row 64 sb) (row 256 c)
      = lane 408 32 fun b => top (score (fun r j => dense 4 (x b) w r j + sb j) c) := by
  dsimp only [k0_pay4]
  simp (disch := (intros; omega)) only [pay3_eq, slice_lane, maximumf_lane]
  rfl

/-- A product with a matrix that picks columns. -/
theorem matmul_sel {R P Q : ℕ} (A : ℕ → ℕ → ℕ → ℝ) (f : ℕ → ℕ) (hP : P % 8 = 0) (hf : ∀ j, j < (Q + 7) / 8 → f j < P / 8) :
    matmul (DotDims.plain R P Q) none (lane R P A) (spread P Q (sel f)) (constant ⟨2, ![R, Q]⟩ .f32 0x00000000#32)
      = lane R Q fun b r j => A b r (f j) := by
  rw [matmul_lane A (sel f) hP]
  refine lane_congr fun b r j _ _ hj => ?_
  simp [sel, hf j hj]

/-- The rounding's remainder is nothing over the extended reals. -/
theorem subf_self_lane {R L : ℕ} (A : ℕ → ℕ → ℕ → ℝ) :
    subf (lane R L A) (lane R L A) = lane R L fun _ _ _ => 0 := by
  rw [subf_lane]
  simp only [sub_self]

theorem addf_zero_lane {R L : ℕ} (A : ℕ → ℕ → ℕ → ℝ) : addf (lane R L A) (lane R L fun _ _ _ => 0) = lane R L A := by
  rw [addf_lane]
  simp only [add_zero]

theorem pay5_eq (E : ℕ → ℕ → ℕ → ℝ) :
    k0_pay5 (F := Ideal) (lane 408 256 E) (lane 408 32 fun b => top (E b)) (spread 32 256 (sel (· % 4)))
      = lane 408 256 fun b => weight (E b) := by
  dsimp only [k0_pay5]
  simp (disch := (intros; omega)) only [shapeCast_self, dot_b, matmul_sel, subf_lane, exp_lane]
  rfl

theorem pay6_eq (E : ℕ → ℕ → ℕ → ℝ) :
    k0_pay6 (F := Ideal) (lane 408 256 E) (lane 408 32 fun b => top (E b)) (spread 32 256 (sel (· % 4)))
        (spread 32 128 (sel (· / 4))) (spread 32 128 (sel (· / 4)))
      = lane 408 128 fun b r c => tot (weight (E b)) r (c / 4) := by
  dsimp only [k0_pay6]
  simp (disch := (intros; omega)) only [pay5_eq, shapeCast_self, dot_c, extf_truncf, slice_lane, addf_lane,
    subf_self_lane, matmul_sel, add_zero]
  rfl

/-- What the slabs of selection matrices pick: in direction `d`, column `c`'s head. -/
def selDir (n d : ℕ) : ℕ → ℕ → ℝ := sel fun c => 4 * d + c / n

theorem matmul_dir4 {R d : ℕ} (A : ℕ → ℕ → ℕ → ℝ) (hd : d < 8) :
    matmul (DotDims.plain R 256 128) none (lane R 256 A) (spread 256 128 (selDir 4 d)) (constant ⟨2, ![R, 128]⟩ .f32 0x00000000#32)
      = lane R 128 fun b r j => A b r (4 * d + j / 4) :=
  matmul_sel A _ rfl (by omega)

theorem matmul_dir12 {R d : ℕ} (A : ℕ → ℕ → ℕ → ℝ) (hd : d < 8) :
    matmul (DotDims.plain R 256 384) none (lane R 256 A) (spread 256 384 (selDir 12 d)) (constant ⟨2, ![R, 384]⟩ .f32 0x00000000#32)
      = lane R 384 fun b r j => A b r (4 * d + j / 12) :=
  matmul_sel A _ rfl (by omega)

/-- A slab of the first layer's selection matrices, as it is loaded. -/
def slab1 (d : ℕ) (inb : ∀ a, (![d, 0, 0] : Fin 3 → ℕ) a + S1x256x128.size a ≤ S8x256x128.size a) : FVec Ideal S1x256x128 .f32 :=
  View.ld (Val := Elt Ideal) (e' := .f32) (spreads 256 128 (selDir 4)) (Rect.unit (s := S8x256x128) ![d, 0, 0] S1x256x128.size inb)

/-- The same of the second layer's. -/
def slab2 (d : ℕ) (inb : ∀ a, (![d, 0, 0] : Fin 3 → ℕ) a + S1x256x384.size a ≤ S8x256x384.size a) : FVec Ideal S1x256x384 .f32 :=
  View.ld (Val := Elt Ideal) (e' := .f32) (spreads 256 384 (selDir 12)) (Rect.unit (s := S8x256x384) ![d, 0, 0] S1x256x384.size inb)

theorem shapeCast_slab1 (d : ℕ) (inb) (h) : shapeCast S256x128 (slab1 d inb) h = spread 256 128 (selDir 4 d) :=
  shapeCast_slab (selDir 4) d inb h

theorem shapeCast_slab2 (d : ℕ) (inb) (h) : shapeCast S256x384 (slab2 d inb) h = spread 256 384 (selDir 12 d) :=
  shapeCast_slab (selDir 12) d inb h

theorem pay7_eq (x E : ℕ → ℕ → ℕ → ℝ) (inb0 inb1) :
    k0_pay7 (F := Ideal) (lane 416 128 x) (lane 408 256 E) (lane 408 32 fun b => top (E b)) (spread 32 256 (sel (· % 4)))
        (slab1 0 inb0) (slab1 1 inb1)
      = lane 408 128 fun b r c => weight (E b) r (c / 4) * x b (r + 5) c + weight (E b) r (4 + c / 4) * x b (r + 6) c := by
  dsimp only [k0_pay7]
  simp (disch := (intros; omega)) only [pay5_eq, shapeCast_slab1, dot_d, extf_truncf, slice_lane, addf_zero_lane, mulf_lane,
    subf_self_lane, matmul_dir4, addf_lane, add_zero, Nat.zero_div]
  refine lane_congr fun b r j _ _ _ => ?_
  simp

theorem pay8_eq (x W A : ℕ → ℕ → ℕ → ℝ) (inb2 inb3 inb4) :
    k0_pay8 (F := Ideal) (lane 416 128 x) (lane 408 256 W) (lane 408 128 A) (slab1 2 inb2) (slab1 3 inb3) (slab1 4 inb4)
      = lane 408 128 fun b r c => A b r c + W b r (8 + c / 4) * x b (r + 7) c
          + W b r (12 + c / 4) * x b (r + 8) c + W b r (16 + c / 4) * x b (r + 3) c := by
  dsimp only [k0_pay8]
  simp (disch := (intros; omega)) only [shapeCast_slab1, dot_d, extf_truncf, slice_lane, addf_zero_lane, mulf_lane,
    subf_self_lane, matmul_dir4, addf_lane, add_zero, Nat.zero_div]

theorem pay9_eq (inb) : k0_pay9 (F := Ideal) (slab1 5 inb) = spread 256 128 (selDir 4 5) := by
  dsimp only [k0_pay9]
  rw [shapeCast_slab1]

theorem pay10_eq (W : ℕ → ℕ → ℕ → ℝ) : k0_pay10 (F := Ideal) (lane 408 256 W) = lane 408 256 W := rfl

theorem pay11_eq (W : ℕ → ℕ → ℕ → ℝ) (inb) :
    k0_pay11 (F := Ideal) (lane 408 256 W) (slab1 5 inb) = lane 408 128 fun b r c => W b r (20 + c / 4) := by
  dsimp only [k0_pay11]
  simp (disch := (intros; omega)) only [pay9_eq, pay10_eq, dot_d, matmul_dir4]

theorem pay12_eq (W : ℕ → ℕ → ℕ → ℝ) (inb) :
    k0_pay12 (F := Ideal) (lane 408 256 W) (slab1 5 inb) = lane 408 128 fun _ _ _ => 0 := by
  dsimp only [k0_pay12]
  simp (disch := (intros; omega)) only [pay9_eq, pay10_eq, subf_self_lane, dot_d, matmul_dir4]

theorem pay13_eq (x W T A D : ℕ → ℕ → ℕ → ℝ) (w1 w2 : ℕ → ℕ → ℝ) (b1 : ℕ → ℝ) (inb6 inb7)
    (hT : ∀ b r c, T b r c ≠ 0) :
    k0_pay13 (F := Ideal) (lane 416 128 x) (lane 408 256 W) (lane 408 128 T) (lane 408 128 A) (lane 408 128 D)
        (lane 408 128 fun _ _ _ => 0) (slab1 6 inb6) (slab1 7 inb7) (spread 128 2048 w1) (row 2048 b1) (spread 2048 384 w2)
      = lane 408 384 fun b => dense 256 (fun r h => dense 16 (fun r c => (A b r c + D b r c * x b (r + 2) c
          + W b r (24 + c / 4) * x b (r + 1) c + W b r (28 + c / 4) * x b r c) / T b r c) w1 r h + b1 h) w2 := by
  dsimp only [k0_pay13]
  simp (disch := first | (intros; omega) | (intros; apply hT)) only [shapeCast_slab1, dot_d,
    extf_truncf, slice_lane, addf_zero_lane, mulf_lane, subf_self_lane, matmul_dir4, addf_lane, divf_lane]
  simp (disch := (intros; omega)) only [shapeCast_self, dot_e, dot_f, addf_lane, matmul_lane, broadcastTo_row, add_zero,
    Nat.zero_div]
  rfl

/-! ## The second layer -/

theorem pay14_eq (b2 : ℕ → ℝ) : k0_pay14 (F := Ideal) (row 384 b2) = lane 408 384 fun _ _ j => b2 j := by
  dsimp only [k0_pay14]
  simp (disch := (intros; omega)) only [shapeCast_self, broadcastTo_row]

theorem pay15_eq (H : ℕ → ℕ → ℕ → ℝ) (b2 : ℕ → ℝ) :
    k0_pay15 (F := Ideal) (lane 408 384 H) (lane 408 384 fun _ _ j => b2 j) = lane 408 384 fun b r j => H b r j + b2 j := by
  dsimp only [k0_pay15]
  rw [addf_lane]

theorem pay16_eq (H : ℕ → ℕ → ℕ → ℝ) (ab : ℕ → ℕ → ℝ) (b2 c : ℕ → ℝ) :
    k0_pay16 (F := Ideal) (lane 408 384 H) (lane 408 384 fun _ _ j => b2 j) (spread 384 64 ab) (row 256 c)
        (spread 32 256 (sel (· % 4)))
      = lane 400 256 fun b => weight (score (dense 48 (fun r j => H b r j + b2 j) ab) c) := by
  dsimp only [k0_pay16]
  simp (disch := (intros; omega)) only [pay15_eq, shapeCast_self, dot_g, slice_lane, matmul_lane, broadcastTo_row, addf_lane,
    concatenate_eight, Nat.add_zero, Nat.zero_div, Nat.reduceDiv]
  have e := eight_scores (R := 400) fun b r j => ∑ i ∈ Finset.range 48, (H b r i + b2 i) * ab i j
  rw [e]
  simp (disch := (intros; omega)) only [addf_lane, leaky_lane, slice_lane, maximumf_lane, dot_h, matmul_sel, subf_lane, exp_lane]
  rfl

/-- The sum of the eight directions, before its last halving. -/
def quarters (W : ℕ → ℕ → ℝ) (r j : ℕ) : ℝ := W r j + W r (j + 16) + (W r (j + 8) + W r (j + 8 + 16))

theorem pay17_eq (H : ℕ → ℕ → ℕ → ℝ) (ab : ℕ → ℕ → ℝ) (b2 c : ℕ → ℝ) :
    k0_pay17 (F := Ideal) (lane 408 384 H) (lane 408 384 fun _ _ j => b2 j) (spread 384 64 ab) (row 256 c)
        (spread 32 256 (sel (· % 4)))
      = lane 400 64 fun b => quarters (weight (score (dense 48 (fun r j => H b r j + b2 j) ab) c)) := by
  dsimp only [k0_pay17]
  simp (disch := (intros; omega)) only [pay16_eq, slice_lane, addf_lane]
  rfl

theorem pay18_eq (W : ℕ → ℕ → ℕ → ℝ) :
    k0_pay18 (F := Ideal) (lane 400 64 fun b => quarters (W b)) (spread 32 384 (sel (· / 12))) (spread 32 384 (sel (· / 12)))
      = lane 400 384 fun b r c => tot (W b) r (c / 12) := by
  dsimp only [k0_pay18]
  simp (disch := (intros; omega)) only [shapeCast_self, dot_i, extf_truncf, slice_lane, addf_lane,
    subf_self_lane, matmul_sel, add_zero]
  rfl

theorem pay19_eq (h W : ℕ → ℕ → ℕ → ℝ) (inb0 inb1) :
    k0_pay19 (F := Ideal) (lane 408 384 h) (lane 400 256 W) (slab2 0 inb0) (slab2 1 inb1)
      = lane 400 384 fun b r c => W b r (c / 12) * h b (r + 5) c + W b r (4 + c / 12) * h b (r + 6) c := by
  dsimp only [k0_pay19]
  simp (disch := (intros; omega)) only [shapeCast_slab2, dot_j, extf_truncf, slice_lane, addf_zero_lane, mulf_lane,
    subf_self_lane, matmul_dir12, addf_lane, add_zero, Nat.zero_div]
  refine lane_congr fun b r j _ _ _ => ?_
  simp

theorem pay20_eq (inb) : k0_pay20 (F := Ideal) (slab2 2 inb) = spread 256 384 (selDir 12 2) := by
  dsimp only [k0_pay20]
  rw [shapeCast_slab2]

theorem pay21_eq (W : ℕ → ℕ → ℕ → ℝ) : k0_pay21 (F := Ideal) (lane 400 256 W) = lane 400 256 W := rfl

theorem pay22_eq (W : ℕ → ℕ → ℕ → ℝ) (inb) :
    k0_pay22 (F := Ideal) (lane 400 256 W) (slab2 2 inb) = lane 400 384 fun b r c => W b r (8 + c / 12) := by
  dsimp only [k0_pay22]
  simp (disch := (intros; omega)) only [pay20_eq, pay21_eq, dot_j, matmul_dir12]

theorem pay23_eq (W : ℕ → ℕ → ℕ → ℝ) (inb) :
    k0_pay23 (F := Ideal) (lane 400 256 W) (slab2 2 inb) = lane 400 384 fun _ _ _ => 0 := by
  dsimp only [k0_pay23]
  simp (disch := (intros; omega)) only [pay20_eq, pay21_eq, subf_self_lane, dot_j, matmul_dir12]

theorem pay24_eq (h W A D : ℕ → ℕ → ℕ → ℝ) (inb3 inb4 inb5) :
    k0_pay24 (F := Ideal) (lane 408 384 h) (lane 400 256 W) (lane 400 384 A) (lane 400 384 D) (lane 400 384 fun _ _ _ => 0)
        (slab2 3 inb3) (slab2 4 inb4) (slab2 5 inb5)
      = lane 400 384 fun b r c => A b r c + D b r c * h b (r + 7) c + W b r (12 + c / 12) * h b (r + 8) c
          + W b r (16 + c / 12) * h b (r + 3) c + W b r (20 + c / 12) * h b (r + 2) c := by
  dsimp only [k0_pay24]
  simp (disch := (intros; omega)) only [shapeCast_slab2, dot_j, extf_truncf, slice_lane, addf_zero_lane, mulf_lane,
    subf_self_lane, matmul_dir12, addf_lane, add_zero, Nat.zero_div]

theorem pay25_eq (inb) : k0_pay25 (F := Ideal) (slab2 6 inb) = spread 256 384 (selDir 12 6) := by
  dsimp only [k0_pay25]
  rw [shapeCast_slab2]

theorem pay26_eq (W : ℕ → ℕ → ℕ → ℝ) : k0_pay26 (F := Ideal) (lane 400 256 W) = lane 400 256 W := rfl

theorem pay27_eq (W : ℕ → ℕ → ℕ → ℝ) : k0_pay27 (F := Ideal) (lane 400 256 W) = lane 400 256 fun _ _ _ => 0 := by
  dsimp only [k0_pay27]
  rw [pay26_eq, subf_self_lane]

theorem pay1_eq (h W T A : ℕ → ℕ → ℕ → ℝ) (inb7) (hT : ∀ b r c, T b r c ≠ 0) :
    k0_pay1 (F := Ideal) (lane 408 384 h) (lane 400 256 W) (lane 400 384 T) (lane 400 384 A) (spread 256 384 (selDir 12 6))
        (lane 400 256 W) (lane 400 256 fun _ _ _ => 0) (slab2 7 inb7)
      = chunk 400 96 fun b => heads fun r c => (A b r c + W b r (24 + c / 12) * h b (r + 1) c
          + W b r (28 + c / 12) * h b r c) / T b r c := by
  dsimp only [k0_pay1]
  simp (disch := first | (intros; omega) | (intros; apply hT)) only [shapeCast_slab2, dot_j, extf_truncf, slice_lane,
    addf_zero_lane, mulf_lane, subf_self_lane, matmul_dir12, addf_lane, add_zero, Nat.zero_div, divf_lane, shapeCast_lane]
  rfl

/-! ## The whole body -/

section whole

variable (x : ℕ → ℕ → ℕ → ℝ) (wab w1 w2 ab : ℕ → ℕ → ℝ) (sb c1 b1 b2 c2 : ℕ → ℝ)

theorem pay32_eq :
    k0_pay32 (F := Ideal) (chunk 416 128 x) (spread 32 64 wab) (row 64 sb) (row 256 c1) (spreads 256 128 (selDir 4))
        (spread 32 128 (sel (· / 4))) (spread 128 2048 w1) (row 2048 b1) (spread 2048 384 w2) (row 384 b2)
        (spread 384 64 ab) (row 256 c2) (spreads 256 384 (selDir 12)) (spread 32 384 (sel (· / 12)))
        (spread 32 256 (sel (· % 4)))
      = lane 408 384 fun b => dense 256
          (fun r h => dense 16 (mix 4 (weight1 (x b) wab sb c1) (x b)) w1 r h + b1 h) w2 := by
  unfold k0_pay32 k0_pay31 k0_pay30 k0_pay29 k0_pay28
  rw [ld_whole (chunk 416 128 x) _ (by decide), ld_whole (spread 32 64 wab) _ (by decide),
    ld_whole (row 64 sb) _ (by decide), ld_whole (row 256 c1) _ (by decide),
    ld_whole (spread 32 256 (sel (· % 4))) _ (by decide), ld_whole (spread 32 128 (sel (· / 4))) _ (by decide),
    ld_whole (spread 128 2048 w1) _ (by decide), ld_whole (row 2048 b1) _ (by decide),
    ld_whole (spread 2048 384 w2) _ (by decide)]
  have hT : ∀ b r c : ℕ, tot (weight (score (fun r j => dense 4 (x b) wab r j + sb j) c1)) r (c / 4) ≠ 0 :=
    fun b r c => (tot_pos (weight_pos _) r _).ne'
  rw [pay2_eq, pay3_eq, pay4_eq, pay5_eq, pay6_eq]
  erw [pay7_eq, pay8_eq, pay11_eq, pay12_eq]
  erw [pay13_eq (hT := hT)]
  rfl

theorem out_eq :
    out0_15 (F := Ideal) (chunk 416 128 x) (spread 32 64 wab) (row 64 sb) (row 256 c1) (spreads 256 128 (selDir 4))
        (spread 32 128 (sel (· / 4))) (spread 128 2048 w1) (row 2048 b1) (spread 2048 384 w2) (row 384 b2)
        (spread 384 64 ab) (row 256 c2) (spreads 256 384 (selDir 12)) (spread 32 384 (sel (· / 12)))
        (spread 32 256 (sel (· % 4)))
      = chunk 400 96 fun b => heads (attend2 (feat2 (x b) wab w1 w2 sb c1 b1 b2) ab c2) := by
  unfold out0_15 k0_pay35 k0_pay34 k0_pay33
  rw [View.canon_cons_unit_lit _ _ _ (by decide), pay32_eq]
  have hT : ∀ b r c : ℕ, tot (weight (score (dense 48 (feat2 (x b) wab w1 w2 sb c1 b1 b2) ab) c2)) r (c / 12) ≠ 0 :=
    fun b r c => (tot_pos (weight_pos _) r _).ne'
  rw [ld_whole (row 384 b2) _ (by decide), ld_whole (spread 384 64 ab) _ (by decide), ld_whole (row 256 c2) _ (by decide),
    ld_whole (spread 32 256 (sel (· % 4))) _ (by decide), ld_whole (spread 32 384 (sel (· / 12))) _ (by decide)]
  rw [pay14_eq, pay15_eq, pay16_eq, pay17_eq, pay18_eq, pay26_eq, pay27_eq]
  erw [pay19_eq, pay22_eq, pay23_eq, pay24_eq, pay25_eq]
  erw [pay1_eq (hT := hT)]
  rfl

end whole

end Cert.Gat

end
-- ==== Proof.Arrays.lean ====
/- Arrays of reals of two, three and four axes, and how the operations that lay out a program's operands act on them. -/
module

public import proofs.«01_k».proof.Proof.Block
public import Idealize.ShloMosaic.Lib.Routing.OpsOne
public import Idealize.ShloMosaic.Lib.ValueIdxRank6
public import Idealize.ShloMosaic.Lib.StackMember
public import Idealize.ShloMosaic.Lib.Affine

@[expose] public section

noncomputable section

namespace Cert.Gat

open Idealize.ShloMosaic
open scoped BigOperators

/-! ## Arrays of reals -/

def vec (n : ℕ) (f : ℕ → ℝ) : FVec Ideal ⟨1, ![n]⟩ .f32 := fun i => ((f (i 0).val : ℝ) : EReal)

def mat (R C : ℕ) (f : ℕ → ℕ → ℝ) : FVec Ideal ⟨2, ![R, C]⟩ .f32 := fun i => ((f (i 0).val (i 1).val : ℝ) : EReal)

def cube (A B C : ℕ) (f : ℕ → ℕ → ℕ → ℝ) : FVec Ideal ⟨3, ![A, B, C]⟩ .f32 :=
  fun i => ((f (i 0).val (i 1).val (i 2).val : ℝ) : EReal)

def hyper (A B C D : ℕ) (f : ℕ → ℕ → ℕ → ℕ → ℝ) : FVec Ideal ⟨4, ![A, B, C, D]⟩ .f32 :=
  fun i => ((f (i 0).val (i 1).val (i 2).val (i 3).val : ℝ) : EReal)

theorem mat_congr {R C : ℕ} {f g : ℕ → ℕ → ℝ} (h : ∀ r c, r < R → c < C → f r c = g r c) : mat R C f = mat R C g := by
  funext i; exact congrArg _ (h _ _ (i 0).isLt (i 1).isLt)

theorem spread_congr {P Q : ℕ} {f g : ℕ → ℕ → ℝ} (h : ∀ r c, r < (P + 7) / 8 → c < (Q + 7) / 8 → f r c = g r c) :
    spread P Q f = spread P Q g := by
  funext i
  have h0 : (i 0).val < P := (i 0).isLt
  have h1 : (i 1).val < Q := (i 1).isLt
  unfold spread
  rw [h _ _ (by omega) (by omega)]

theorem row_congr {L : ℕ} {f g : ℕ → ℝ} (h : ∀ c, c < (L + 7) / 8 → f c = g c) : row L f = row L g := by
  funext i
  have h1 : (i 1).val < L := (i 1).isLt
  unfold row
  rw [h _ (by omega)]

/-! ## Slices, transposes and reshapes -/

theorem slice_cube {A B C a b c : ℕ} (f : ℕ → ℕ → ℕ → ℝ) (o0 o1 o2 : ℕ)
    (h : (⟨3, ![A, B, C]⟩ : Shape).Slices ![o0, o1, o2] ⟨3, ![a, b, c]⟩) :
    extractStridedSlice ⟨3, ![a, b, c]⟩ ![o0, o1, o2] (cube A B C f) h
      = cube a b c fun x y z => f (o0 + x) (o1 + y) (o2 + z) := rfl

theorem shapeCast_cube_vec {n : ℕ} (f : ℕ → ℕ → ℕ → ℝ) (h : (⟨3, ![1, n, 1]⟩ : Shape).ShapeCasts ⟨1, ![n]⟩) :
    shapeCast ⟨1, ![n]⟩ (cube 1 n 1 f) h = vec n fun t => f 0 t 0 := by
  funext j
  refine (shapeCast_apply _ h j (ValueIdx.ix3 (0 : Fin 1) (⟨(j 0).val, (j 0).isLt⟩ : Fin n) (0 : Fin 1)) ?_).trans rfl
  rw [Shape.rowMajor_val_three, Shape.rowMajor_val_one]
  show (0 * n + (j 0).val) * 1 + 0 = (j 0).val
  omega

theorem shapeCast_cube_mat {R C : ℕ} (f : ℕ → ℕ → ℕ → ℝ) (h : (⟨3, ![1, R, C]⟩ : Shape).ShapeCasts ⟨2, ![R, C]⟩) :
    shapeCast ⟨2, ![R, C]⟩ (cube 1 R C f) h = mat R C (f 0) := by
  funext j
  refine (shapeCast_apply _ h j (ValueIdx.ix3 (0 : Fin 1) (⟨(j 0).val, (j 0).isLt⟩ : Fin R)
    (⟨(j 1).val, (j 1).isLt⟩ : Fin C)) ?_).trans rfl
  rw [Shape.rowMajor_val_three, Shape.rowMajor_val_two]
  show (0 * R + (j 0).val) * C + (j 1).val = (j 0).val * C + (j 1).val
  rw [Nat.zero_mul, Nat.zero_add]

/-- The last two axes of a block put together. -/
theorem shapeCast_cube_flat {A B C N : ℕ} (hN : N = B * C) (hC : 0 < C) (f : ℕ → ℕ → ℕ → ℝ)
    (h : (⟨3, ![A, B, C]⟩ : Shape).ShapeCasts ⟨2, ![A, N]⟩) :
    shapeCast ⟨2, ![A, N]⟩ (cube A B C f) h = mat A N fun i j => f i (j / C) (j % C) := by
  subst hN
  funext j
  have h1 : (j 1).val < B * C := (j 1).isLt
  refine (shapeCast_apply _ h j (ValueIdx.ix3 (⟨(j 0).val, (j 0).isLt⟩ : Fin A)
    (⟨(j 1).val / C, Nat.div_lt_of_lt_mul (lt_of_lt_of_eq h1 (Nat.mul_comm _ _))⟩ : Fin B)
    (⟨(j 1).val % C, Nat.mod_lt _ hC⟩ : Fin C)) ?_).trans rfl
  rw [Shape.rowMajor_val_three, Shape.rowMajor_val_two]
  show ((j 0).val * B + (j 1).val / C) * C + (j 1).val % C = (j 0).val * (B * C) + (j 1).val
  have := Nat.div_add_mod (j 1).val C
  rw [Nat.add_mul, Nat.mul_assoc, Nat.mul_comm ((j 1).val / C) C]
  omega

theorem shapeCast_mat_row {R C N : ℕ} (hN : N = R * C) (hC : 0 < C) (f : ℕ → ℕ → ℝ)
    (h : (⟨2, ![R, C]⟩ : Shape).ShapeCasts ⟨2, ![1, N]⟩) :
    shapeCast ⟨2, ![1, N]⟩ (mat R C f) h = mat 1 N fun _ j => f (j / C) (j % C) := by
  subst hN
  funext j
  have h0 : (j 0).val < 1 := (j 0).isLt
  have h1 : (j 1).val < R * C := (j 1).isLt
  refine (shapeCast_apply _ h j (ValueIdx.ix2
    (⟨(j 1).val / C, Nat.div_lt_of_lt_mul (lt_of_lt_of_eq h1 (Nat.mul_comm _ _))⟩ : Fin R)
    (⟨(j 1).val % C, Nat.mod_lt _ hC⟩ : Fin C)) ?_).trans rfl
  rw [Shape.rowMajor_val_two, Shape.rowMajor_val_two]
  show (j 1).val / C * C + (j 1).val % C = (j 0).val * (R * C) + (j 1).val
  have := Nat.div_add_mod (j 1).val C
  rw [Nat.mul_comm ((j 1).val / C) C, show (j 0).val = 0 by omega]
  omega

theorem transpose_cube {A B C : ℕ} (f : ℕ → ℕ → ℕ → ℝ)
    (h : (⟨3, ![A, B, C]⟩ : Shape).Transposes [1, 0, 2] ⟨3, ![B, A, C]⟩) :
    transpose ⟨3, ![B, A, C]⟩ [1, 0, 2] (cube A B C f) h = cube B A C fun x y z => f y x z := by
  funext j
  refine (transpose_apply _ _ h j (ValueIdx.ix3 (⟨(j 1).val, (j 1).isLt⟩ : Fin A) (⟨(j 0).val, (j 0).isLt⟩ : Fin B)
    (⟨(j 2).val, (j 2).isLt⟩ : Fin C)) ?_).trans rfl
  intro b
  match b with
  | ⟨0, _⟩ => rfl
  | ⟨1, _⟩ => rfl
  | ⟨2, _⟩ => rfl

theorem transpose_cube_last {A B C : ℕ} (f : ℕ → ℕ → ℕ → ℝ)
    (h : (⟨3, ![A, B, C]⟩ : Shape).Transposes [0, 2, 1] ⟨3, ![A, C, B]⟩) :
    transpose ⟨3, ![A, C, B]⟩ [0, 2, 1] (cube A B C f) h = cube A C B fun x y z => f x z y := by
  funext j
  refine (transpose_apply _ _ h j (ValueIdx.ix3 (⟨(j 0).val, (j 0).isLt⟩ : Fin A) (⟨(j 2).val, (j 2).isLt⟩ : Fin B)
    (⟨(j 1).val, (j 1).isLt⟩ : Fin C)) ?_).trans rfl
  intro b
  match b with
  | ⟨0, _⟩ => rfl
  | ⟨1, _⟩ => rfl
  | ⟨2, _⟩ => rfl

theorem transpose_hyper {A B C D : ℕ} (f : ℕ → ℕ → ℕ → ℕ → ℝ)
    (h : (⟨4, ![A, B, C, D]⟩ : Shape).Transposes [0, 2, 1, 3] ⟨4, ![A, C, B, D]⟩) :
    transpose ⟨4, ![A, C, B, D]⟩ [0, 2, 1, 3] (hyper A B C D f) h = hyper A C B D fun x y z w => f x z y w := by
  funext j
  refine (transpose_apply _ _ h j (ValueIdx.ix4 (⟨(j 0).val, (j 0).isLt⟩ : Fin A) (⟨(j 2).val, (j 2).isLt⟩ : Fin B)
    (⟨(j 1).val, (j 1).isLt⟩ : Fin C) (⟨(j 3).val, (j 3).isLt⟩ : Fin D)) ?_).trans rfl
  intro b
  match b with
  | ⟨0, _⟩ => rfl
  | ⟨1, _⟩ => rfl
  | ⟨2, _⟩ => rfl
  | ⟨3, _⟩ => rfl

/-! ## A small matrix beside each batch -/

theorem eye_eq (h : (⟨0, ![]⟩ : Shape).BroadcastsInDim ⟨2, ![8, 8]⟩ ![]) :
    uitofp (F := Ideal) .f32 (cmpi .eq (addi (iotaInDim ⟨2, ![8, 8]⟩ 32 0) (broadcastInDim ⟨2, ![8, 8]⟩ ![] h (constantI ⟨0, ![]⟩ 32 0#32)))
      (iotaInDim ⟨2, ![8, 8]⟩ 32 1)) = mat 8 8 fun i j => if i = j then 1 else 0 := by
  funext i
  have h0 : (i 0).val < 8 := (i 0).isLt
  have h1 : (i 1).val < 8 := (i 1).isLt
  show (((IntOp.cmpi .eq (IntOp.addi (BitVec.ofNat 32 (i 0).val) 0#32) (BitVec.ofNat 32 (i 1).val)).toNat : ℝ) : EReal) = _
  unfold mat
  generalize (i 0).val = a at *
  generalize (i 1).val = b at *
  refine congrArg _ ?_
  interval_cases a <;> interval_cases b <;> simp [IntOp.cmpi, IntOp.addi]

theorem ones_eq (h : (⟨0, ![]⟩ : Shape).BroadcastsInDim ⟨2, ![1, 8]⟩ ![]) :
    broadcastInDim ⟨2, ![1, 8]⟩ ![] h (constant (F := Ideal) ⟨0, ![]⟩ .f32 0x3F800000#32) = mat 1 8 fun _ _ => 1 := by
  funext i
  show Ideal.ofBits .f32 0x3F800000#32 = _
  have e : Ideal.ofBits .f32 0x3F800000#32 = ((1 : ℝ) : EReal) := by
    refine (show Ideal.ofBits .f32 0x3F800000#32 = ((8388608 * (2 ^ 23)⁻¹ : ℝ) : EReal) by simp [Ideal.ofBits, Ideal.ieee]).trans ?_
    norm_num
  exact e

/-- The product of a matrix with the unit matrix over the eight batches. -/
theorem kron_eye {P Q P8 Q8 : ℕ} (hP : P8 = 8 * P) (hQ : Q8 = 8 * Q) (M : ℕ → ℕ → ℝ)
    (h1 : (⟨4, ![P, 1, Q, 1]⟩ : Shape).BroadcastsInDim ⟨4, ![P, 8, Q, 8]⟩ ![0, 1, 2, 3])
    (h2 : (⟨2, ![P, Q]⟩ : Shape).BroadcastsInDim ⟨4, ![P, 1, Q, 1]⟩ ![0, 2])
    (h3 : (⟨4, ![1, 8, 1, 8]⟩ : Shape).BroadcastsInDim ⟨4, ![P, 8, Q, 8]⟩ ![0, 1, 2, 3])
    (h4 : (⟨2, ![8, 8]⟩ : Shape).BroadcastsInDim ⟨4, ![1, 8, 1, 8]⟩ ![1, 3])
    (h5 : (⟨4, ![P, 8, Q, 8]⟩ : Shape).ShapeCasts ⟨2, ![P8, Q8]⟩) :
    shapeCast ⟨2, ![P8, Q8]⟩ (mulf (F := Ideal) (φ := .f32)
      (broadcastInDim ⟨4, ![P, 8, Q, 8]⟩ ![0, 1, 2, 3] h1 (broadcastInDim ⟨4, ![P, 1, Q, 1]⟩ ![0, 2] h2 (mat P Q M)))
      (broadcastInDim ⟨4, ![P, 8, Q, 8]⟩ ![0, 1, 2, 3] h3
        (broadcastInDim ⟨4, ![1, 8, 1, 8]⟩ ![1, 3] h4 (mat 8 8 fun i j => if i = j then 1 else 0)))) h5
      = spread P8 Q8 M := by
  subst hP hQ
  funext j
  have j0 : (j 0).val < 8 * P := (j 0).isLt
  have j1 : (j 1).val < 8 * Q := (j 1).isLt
  have l0 : (j 0).val / 8 < P := by omega
  have l1 : (j 1).val / 8 < Q := by omega
  have a0 : (j 0).val % 8 < 8 := by omega
  have a1 : (j 1).val % 8 < 8 := by omega
  refine (shapeCast_apply _ h5 j (ValueIdx.ix4 (⟨(j 0).val / 8, l0⟩ : Fin P) (⟨(j 0).val % 8, a0⟩ : Fin 8)
    (⟨(j 1).val / 8, l1⟩ : Fin Q) (⟨(j 1).val % 8, a1⟩ : Fin 8)) ?_).trans ?_
  · rw [Shape.rowMajor_val_four, Shape.rowMajor_val_two]
    show (((j 0).val / 8 * 8 + (j 0).val % 8) * Q + (j 1).val / 8) * 8 + (j 1).val % 8 = (j 0).val * (8 * Q) + (j 1).val
    rw [show (j 0).val / 8 * 8 + (j 0).val % 8 = (j 0).val by omega, Nat.add_mul, Nat.mul_assoc, Nat.mul_comm Q 8]
    omega
  · show broadcastInDim _ _ h1 _ _ * broadcastInDim _ _ h3 _ _ = _
    rw [broadcastInDim_apply _ h1 _ _ (ValueIdx.ix4 (⟨(j 0).val / 8, l0⟩ : Fin P) (0 : Fin 1) (⟨(j 1).val / 8, l1⟩ : Fin Q)
        (0 : Fin 1)) ?_,
      broadcastInDim_apply _ h2 _ _ (ValueIdx.ix2 (⟨(j 0).val / 8, l0⟩ : Fin P) (⟨(j 1).val / 8, l1⟩ : Fin Q)) ?_,
      broadcastInDim_apply _ h3 _ _ (ValueIdx.ix4 (0 : Fin 1) (⟨(j 0).val % 8, a0⟩ : Fin 8) (0 : Fin 1)
        (⟨(j 1).val % 8, a1⟩ : Fin 8)) ?_,
      broadcastInDim_apply _ h4 _ _ (ValueIdx.ix2 (⟨(j 0).val % 8, a0⟩ : Fin 8) (⟨(j 1).val % 8, a1⟩ : Fin 8)) ?_]
    · show ((M _ _ : ℝ) : EReal) * (((if (j 0).val % 8 = (j 1).val % 8 then 1 else 0 : ℝ)) : EReal) = _
      rw [← EReal.coe_mul, mul_ite, mul_one, mul_zero]
      rfl
    all_goals intro b
    · match b with
      | ⟨0, _⟩ => rfl
      | ⟨1, _⟩ => rfl
    · match b with
      | ⟨0, _⟩ => rfl
      | ⟨1, _⟩ => rfl
      | ⟨2, _⟩ => rfl
      | ⟨3, _⟩ => rfl
    · match b with
      | ⟨0, _⟩ => show (j 0).val / 8 = if P = 1 then 0 else (j 0).val / 8; split_ifs <;> omega
      | ⟨1, _⟩ => show (j 1).val / 8 = if Q = 1 then 0 else (j 1).val / 8; split_ifs <;> omega
    · match b with
      | ⟨0, _⟩ => show (j 0).val / 8 = if P = 1 then 0 else (j 0).val / 8; split_ifs <;> omega
      | ⟨1, _⟩ => rfl
      | ⟨2, _⟩ => show (j 1).val / 8 = if Q = 1 then 0 else (j 1).val / 8; split_ifs <;> omega
      | ⟨3, _⟩ => rfl

/-- A row repeated for the eight batches. -/
theorem kron_ones {Q Q8 : ℕ} (hQ : Q8 = 8 * Q) (M : ℕ → ℕ → ℝ)
    (h1 : (⟨4, ![1, 1, Q, 1]⟩ : Shape).BroadcastsInDim ⟨4, ![1, 1, Q, 8]⟩ ![0, 1, 2, 3])
    (h2 : (⟨2, ![1, Q]⟩ : Shape).BroadcastsInDim ⟨4, ![1, 1, Q, 1]⟩ ![0, 2])
    (h3 : (⟨4, ![1, 1, 1, 8]⟩ : Shape).BroadcastsInDim ⟨4, ![1, 1, Q, 8]⟩ ![0, 1, 2, 3])
    (h4 : (⟨2, ![1, 8]⟩ : Shape).BroadcastsInDim ⟨4, ![1, 1, 1, 8]⟩ ![1, 3])
    (h5 : (⟨4, ![1, 1, Q, 8]⟩ : Shape).ShapeCasts ⟨2, ![1, Q8]⟩) :
    shapeCast ⟨2, ![1, Q8]⟩ (mulf (F := Ideal) (φ := .f32)
      (broadcastInDim ⟨4, ![1, 1, Q, 8]⟩ ![0, 1, 2, 3] h1 (broadcastInDim ⟨4, ![1, 1, Q, 1]⟩ ![0, 2] h2 (mat 1 Q M)))
      (broadcastInDim ⟨4, ![1, 1, Q, 8]⟩ ![0, 1, 2, 3] h3
        (broadcastInDim ⟨4, ![1, 1, 1, 8]⟩ ![1, 3] h4 (mat 1 8 fun _ _ => 1)))) h5
      = row Q8 (M 0) := by
  subst hQ
  funext j
  have j0 : (j 0).val < 1 := (j 0).isLt
  have j1 : (j 1).val < 8 * Q := (j 1).isLt
  have l1 : (j 1).val / 8 < Q := by omega
  have a1 : (j 1).val % 8 < 8 := by omega
  refine (shapeCast_apply _ h5 j (ValueIdx.ix4 (0 : Fin 1) (0 : Fin 1)
    (⟨(j 1).val / 8, l1⟩ : Fin Q) (⟨(j 1).val % 8, a1⟩ : Fin 8)) ?_).trans ?_
  · rw [Shape.rowMajor_val_four, Shape.rowMajor_val_two]
    show ((0 * 1 + 0) * Q + (j 1).val / 8) * 8 + (j 1).val % 8 = (j 0).val * (8 * Q) + (j 1).val
    rw [show (j 0).val = 0 by omega]
    omega
  · show broadcastInDim _ _ h1 _ _ * broadcastInDim _ _ h3 _ _ = _
    rw [broadcastInDim_apply _ h1 _ _ (ValueIdx.ix4 (0 : Fin 1) (0 : Fin 1) (⟨(j 1).val / 8, l1⟩ : Fin Q) (0 : Fin 1)) ?_,
      broadcastInDim_apply _ h2 _ _ (ValueIdx.ix2 (0 : Fin 1) (⟨(j 1).val / 8, l1⟩ : Fin Q)) ?_,
      broadcastInDim_apply _ h3 _ _ (ValueIdx.ix4 (0 : Fin 1) (0 : Fin 1) (0 : Fin 1) (⟨(j 1).val % 8, a1⟩ : Fin 8)) ?_,
      broadcastInDim_apply _ h4 _ _ (ValueIdx.ix2 (0 : Fin 1) (⟨(j 1).val % 8, a1⟩ : Fin 8)) ?_]
    · show ((M 0 _ : ℝ) : EReal) * ((1 : ℝ) : EReal) = _
      rw [← EReal.coe_mul, mul_one]
      rfl
    all_goals intro b
    · match b with
      | ⟨0, _⟩ => rfl
      | ⟨1, _⟩ => rfl
    · match b with
      | ⟨0, _⟩ => rfl
      | ⟨1, _⟩ => rfl
      | ⟨2, _⟩ => rfl
      | ⟨3, _⟩ => rfl
    · match b with
      | ⟨0, _⟩ => rfl
      | ⟨1, _⟩ => show (j 1).val / 8 = if Q = 1 then 0 else (j 1).val / 8; split_ifs <;> omega
    · match b with
      | ⟨0, _⟩ => rfl
      | ⟨1, _⟩ => rfl
      | ⟨2, _⟩ => show (j 1).val / 8 = if Q = 1 then 0 else (j 1).val / 8; split_ifs <;> omega
      | ⟨3, _⟩ => rfl

/-! ## Products of matrices -/

theorem dot_mat {P K Q : ℕ} (prec : Option ContractPrecision) (A B : ℕ → ℕ → ℝ) :
    Host.dotGeneral (DotDims.plain P K Q) prec (mat P K A) (mat K Q B)
      = mat P Q fun i j => ∑ k ∈ Finset.range K, A i k * B k j := by
  have at_ix : ∀ (r : Fin P) (c : Fin Q), Host.dotGeneral (DotDims.plain P K Q) prec (mat P K A) (mat K Q B)
      (ValueIdx.ix2 r c) = ((∑ k ∈ Finset.range K, A r.val k * B k c.val : ℝ) : EReal) := by
    intro r c
    refine (StackMember.dotGeneral_plain_apply prec _ _ r c).trans ?_
    rw [Finset.sum_range, coe_sum]
    refine Finset.sum_congr rfl fun k _ => ?_
    exact (EReal.coe_mul _ _).symm
  funext j
  have hj : j = ValueIdx.ix2 (n0 := P) (n1 := Q) (j 0) (j 1) := by
    funext a
    match a with
    | ⟨0, _⟩ => rfl
    | ⟨1, _⟩ => rfl
  rw [hj]
  exact at_ix _ _

/-! ## Columns and blocks written into a matrix -/

/-- Two words as the place where a write starts. -/
def place (a b : IVec ⟨1, ![1]⟩ 32) (h : Shape.Concatenates [⟨1, ![1]⟩, ⟨1, ![1]⟩] ⟨1, ![2]⟩ 0) : IVec ⟨1, ![2]⟩ 32 :=
  concatenate ⟨1, ![2]⟩ 0 [⟨⟨1, ![1]⟩, a⟩, ⟨⟨1, ![1]⟩, b⟩] h

theorem place_zero (a b : IVec ⟨1, ![1]⟩ 32) (h) : place a b h (ValueIdx.ix1 (0 : Fin 2)) = a (ValueIdx.ix1 (0 : Fin 1)) :=
  concatenate_apply_piece (t := ⟨1, ![2]⟩) 0 [⟨⟨1, ![1]⟩, a⟩, ⟨⟨1, ![1]⟩, b⟩] h _ 0 (by decide : 0 < 2) _ a rfl rfl 0 rfl (ValueIdx.ix1 (0 : Fin 1))
    (fun b hb => absurd (Subsingleton.elim (α := Fin 1) _ _) hb) rfl

theorem place_one (a b : IVec ⟨1, ![1]⟩ 32) (h) : place a b h (ValueIdx.ix1 (1 : Fin 2)) = b (ValueIdx.ix1 (0 : Fin 1)) :=
  concatenate_apply_piece (t := ⟨1, ![2]⟩) 0 [⟨⟨1, ![1]⟩, a⟩, ⟨⟨1, ![1]⟩, b⟩] h _ 1 (by decide : 1 < 2) _ b rfl rfl 1 rfl (ValueIdx.ix1 (0 : Fin 1))
    (fun b hb => absurd (Subsingleton.elim (α := Fin 1) _ _) hb) rfl

/-- The column `u` of length `U` written from row `i` of column `j`. -/
def putCol (U i j : ℕ) (u : ℕ → ℝ) (M : ℕ → ℕ → ℝ) (r c : ℕ) : ℝ := if c = j ∧ i ≤ r ∧ r < i + U then u (r - i) else M r c

theorem scatter_col {R C U : ℕ} (d : ScatterDims ⟨2, ![R, C]⟩ ⟨1, ![2]⟩ ⟨1, ![U]⟩) (hU : 0 < U)
    (hiw : d.insertedWindowDims = [1]) (hsd : d.scatterDimsToOperandDims = [0, 1]) (hivd : d.indexVectorDim = 0)
    (M : ℕ → ℕ → ℝ) (u : ℕ → ℝ) (i j : BitVec 32) (hi : i.toNat < 2 ^ 31) (hj : j.toNat < 2 ^ 31)
    (h0 h1 : (⟨0, ![]⟩ : Shape).BroadcastsInDim ⟨1, ![1]⟩ ![]) (h) :
    Host.scatter d (fun _ b => b) (mat R C M) (place (broadcastInDim ⟨1, ![1]⟩ ![] h0 (constantI ⟨0, ![]⟩ 32 i))
      (broadcastInDim ⟨1, ![1]⟩ ![] h1 (constantI ⟨0, ![]⟩ 32 j)) h) (vec U u) = mat R C (putCol U i.toNat j.toNat u M) := by
  funext y
  refine (Routing.scatter_column_signed d hU hiw hsd hivd _ _ _ y).trans ?_
  rw [place_zero, place_one]
  have ei : (broadcastInDim ⟨1, ![1]⟩ ![] h0 (constantI ⟨0, ![]⟩ 32 i) (ValueIdx.ix1 (0 : Fin 1))).toInt = (i.toNat : ℤ) := by
    show i.toInt = _
    rw [BitVec.toInt_eq_toNat_cond]; split_ifs <;> omega
  have ej : (broadcastInDim ⟨1, ![1]⟩ ![] h1 (constantI ⟨0, ![]⟩ 32 j) (ValueIdx.ix1 (0 : Fin 1))).toInt = (j.toNat : ℤ) := by
    show j.toInt = _
    rw [BitVec.toInt_eq_toNat_cond]; split_ifs <;> omega
  rw [ei, ej]
  unfold mat putCol
  by_cases hc : (y 1).val = j.toNat ∧ i.toNat ≤ (y 0).val ∧ (y 0).val < i.toNat + U
  · rw [if_pos (by omega), if_pos hc]
    show ((u ((((y 0).val : ℤ) - (i.toNat : ℤ)).toNat % U) : ℝ) : EReal) = _
    rw [show (((y 0).val : ℤ) - (i.toNat : ℤ)).toNat = (y 0).val - i.toNat by omega, Nat.mod_eq_of_lt (by omega)]
  · rw [if_neg (by omega), if_neg hc]

/-- The block `u` of `P` rows and `Q` columns written from row `i` and column `j`. -/
def putBlock (P Q i j : ℕ) (u M : ℕ → ℕ → ℝ) (r c : ℕ) : ℝ :=
  if i ≤ r ∧ r < i + P ∧ j ≤ c ∧ c < j + Q then u (r - i) (c - j) else M r c

theorem scatter_block {R C P Q : ℕ} (d : ScatterDims ⟨2, ![R, C]⟩ ⟨1, ![2]⟩ ⟨2, ![P, Q]⟩)
    (hw : ∀ k : (⟨2, ![P, Q]⟩ : Shape).Idx, d.window k 0 = (k 0).val ∧ d.window k 1 = (k 1).val)
    (hsd : d.scatterDimsToOperandDims = [0, 1]) (hivd : d.indexVectorDim = 0)
    (M u : ℕ → ℕ → ℝ) (i j : BitVec 32) (hi : i.toNat < 2 ^ 31) (hj : j.toNat < 2 ^ 31)
    (h0 h1 : (⟨0, ![]⟩ : Shape).BroadcastsInDim ⟨1, ![1]⟩ ![]) (h) :
    Host.scatter d (fun _ b => b) (mat R C M) (place (broadcastInDim ⟨1, ![1]⟩ ![] h0 (constantI ⟨0, ![]⟩ 32 i))
      (broadcastInDim ⟨1, ![1]⟩ ![] h1 (constantI ⟨0, ![]⟩ 32 j)) h) (mat P Q u) = mat R C (putBlock P Q i.toNat j.toNat u M) := by
  funext y
  have ei : (broadcastInDim ⟨1, ![1]⟩ ![] h0 (constantI ⟨0, ![]⟩ 32 i) (ValueIdx.ix1 (0 : Fin 1))).toInt = (i.toNat : ℤ) := by
    show i.toInt = _
    rw [BitVec.toInt_eq_toNat_cond]; split_ifs <;> omega
  have ej : (broadcastInDim ⟨1, ![1]⟩ ![] h1 (constantI ⟨0, ![]⟩ 32 j) (ValueIdx.ix1 (0 : Fin 1))).toInt = (j.toNat : ℤ) := by
    show j.toInt = _
    rw [BitVec.toInt_eq_toNat_cond]; split_ifs <;> omega
  have lands : ∀ k, d.resultIdx? k (place (broadcastInDim ⟨1, ![1]⟩ ![] h0 (constantI ⟨0, ![]⟩ 32 i))
      (broadcastInDim ⟨1, ![1]⟩ ![] h1 (constantI ⟨0, ![]⟩ 32 j)) h) = some y
      ↔ i.toNat + (k 0).val = (y 0).val ∧ j.toNat + (k 1).val = (y 1).val := by
    intro k
    have q0 : d.start k (place (broadcastInDim ⟨1, ![1]⟩ ![] h0 (constantI ⟨0, ![]⟩ 32 i))
        (broadcastInDim ⟨1, ![1]⟩ ![] h1 (constantI ⟨0, ![]⟩ 32 j)) h) 0 = (i.toNat : ℤ) :=
      (Routing.start_pair d hsd hivd _ k 0).trans (by rw [place_zero, ei])
    have q1 : d.start k (place (broadcastInDim ⟨1, ![1]⟩ ![] h0 (constantI ⟨0, ![]⟩ 32 i))
        (broadcastInDim ⟨1, ![1]⟩ ![] h1 (constantI ⟨0, ![]⟩ 32 j)) h) 1 = (j.toNat : ℤ) :=
      (Routing.start_pair d hsd hivd _ k 1).trans (by rw [place_one, ej])
    have w := hw k
    rw [Routing.resultIdx?_eq_some]
    constructor
    · intro q
      have a0 := q 0
      have a1 := q 1
      rw [q0, w.1] at a0
      rw [q1, w.2] at a1
      omega
    · intro q a
      match a with
      | ⟨0, _⟩ => exact (congrArg₂ (· + ·) q0 (congrArg Nat.cast w.1)).trans (show (i.toNat : ℤ) + ((k 0).val : ℤ) = ((y 0).val : ℤ) by omega)
      | ⟨1, _⟩ => exact (congrArg₂ (· + ·) q1 (congrArg Nat.cast w.2)).trans (show (j.toNat : ℤ) + ((k 1).val : ℤ) = ((y 1).val : ℤ) by omega)
  by_cases hc : i.toNat ≤ (y 0).val ∧ (y 0).val < i.toNat + P ∧ j.toNat ≤ (y 1).val ∧ (y 1).val < j.toNat + Q
  · have e : mat R C (putBlock P Q i.toNat j.toNat u M) y = ((u ((y 0).val - i.toNat) ((y 1).val - j.toNat) : ℝ) : EReal) := by
      unfold mat putBlock
      rw [if_pos hc]
    rw [e]
    refine Routing.scatter_set_hit d _ _ _ _ _ (fun k hk => ?_) (ValueIdx.ix2
      (⟨(y 0).val - i.toNat, by omega⟩ : Fin P) (⟨(y 1).val - j.toNat, by omega⟩ : Fin Q)) ((lands _).2 ?_)
    · have := (lands k).1 hk
      show ((u (k 0).val (k 1).val : ℝ) : EReal) = _
      rw [show (k 0).val = (y 0).val - i.toNat by omega, show (k 1).val = (y 1).val - j.toNat by omega]
    · show i.toNat + ((y 0).val - i.toNat) = (y 0).val ∧ j.toNat + ((y 1).val - j.toNat) = (y 1).val
      omega
  · refine (Routing.scatter_set_miss d _ _ _ _ fun k hk => hc ?_).trans ?_
    · have := (lands k).1 hk
      have k0 : (k 0).val < P := (k 0).isLt
      have k1 : (k 1).val < Q := (k 1).isLt
      omega
    · unfold mat putBlock
      rw [if_neg hc]

theorem zeros_mat {R C : ℕ} (h : (⟨0, ![]⟩ : Shape).BroadcastsInDim ⟨2, ![R, C]⟩ ![]) :
    broadcastInDim ⟨2, ![R, C]⟩ ![] h (constant (F := Ideal) ⟨0, ![]⟩ .f32 0x00000000#32) = mat R C fun _ _ => 0 := by
  funext i
  exact Ideal.ofBits_zero_f32

/-! ## Tables of zeros and ones from index words -/

theorem word_div (x k : ℕ) (hx : x < 2 ^ 31) (hk : 0 < k) (hk' : k < 2 ^ 31) :
    IntOp.divsi .host (BitVec.ofNat 32 x) (BitVec.ofNat 32 k) = BitVec.ofNat 32 (x / k) := by
  have tk : (BitVec.ofNat 32 k).toInt = k := by
    rw [BitVec.toInt_eq_toNat_cond, BitVec.toNat_ofNat]; split_ifs <;> omega
  unfold IntOp.divsi
  rw [if_neg (IntOp.not_corner_of_pos (by omega))]
  have mx : (BitVec.ofNat 32 x).msb = false := by rw [BitVec.msb_eq_false_iff_two_mul_lt, BitVec.toNat_ofNat]; omega
  have mk : (BitVec.ofNat 32 k).msb = false := by rw [BitVec.msb_eq_false_iff_two_mul_lt, BitVec.toNat_ofNat]; omega
  apply BitVec.eq_of_toNat_eq
  rw [BitVec.sdiv_eq, mx, mk]
  have := Nat.div_le_self x k
  show (BitVec.ofNat 32 x / BitVec.ofNat 32 k).toNat = _
  rw [BitVec.toNat_udiv, BitVec.toNat_ofNat, BitVec.toNat_ofNat, BitVec.toNat_ofNat]
  rw [Nat.mod_eq_of_lt (by omega), Nat.mod_eq_of_lt (by omega), Nat.mod_eq_of_lt (by omega)]

theorem word_rem (x k : ℕ) (hx : x < 2 ^ 31) (hk : 0 < k) (hk' : k < 2 ^ 31) :
    IntOp.remsi .host (BitVec.ofNat 32 x) (BitVec.ofNat 32 k) = BitVec.ofNat 32 (x % k) := by
  apply BitVec.eq_of_toNat_eq
  have hm := Nat.mod_lt x hk
  rw [IntOp.toNat_remsi .host (by rw [BitVec.toNat_ofNat]; omega) k hk (by omega), BitVec.toNat_ofNat, BitVec.toNat_ofNat,
    Nat.mod_eq_of_lt (show x < 2 ^ 32 by omega), Nat.mod_eq_of_lt (show x % k < 2 ^ 32 by omega)]

theorem word_mul (a b : ℕ) : IntOp.muli (BitVec.ofNat 32 a) (BitVec.ofNat 32 b) = BitVec.ofNat 32 (a * b) :=
  (BitVec.ofNat_mul a b).symm

theorem word_add (a b : ℕ) : IntOp.addi (BitVec.ofNat 32 a) (BitVec.ofNat 32 b) = BitVec.ofNat 32 (a + b) :=
  (BitVec.ofNat_add a b).symm

/-- One where two pairs of words agree, zero elsewhere. -/
theorem agree (a b c d : ℕ) (ha : a < 2 ^ 32) (hb : b < 2 ^ 32) (hc : c < 2 ^ 32) (hd : d < 2 ^ 32) :
    (((IntOp.andi (IntOp.cmpi .eq (BitVec.ofNat 32 a) (BitVec.ofNat 32 b))
      (IntOp.cmpi .eq (BitVec.ofNat 32 c) (BitVec.ofNat 32 d))).toNat : ℝ) : EReal)
      = ((if c = d then if a = b then 1 else 0 else 0 : ℝ) : EReal) := by
  have e : ∀ x y : ℕ, x < 2 ^ 32 → y < 2 ^ 32 → IntOp.cmpi .eq (BitVec.ofNat 32 x) (BitVec.ofNat 32 y) = if x = y then 1#1 else 0#1 := by
    intro x y hx hy
    have : BitVec.ofNat 32 x = BitVec.ofNat 32 y ↔ x = y := by
      rw [← BitVec.toNat_inj, BitVec.toNat_ofNat, BitVec.toNat_ofNat, Nat.mod_eq_of_lt hx, Nat.mod_eq_of_lt hy]
    have q := (IntOp.cmpi_eq (x := BitVec.ofNat 32 x) (y := BitVec.ofNat 32 y)).trans this
    rcases (by decide : ∀ b : BitVec 1, b = 1#1 ∨ b = 0#1) (IntOp.cmpi .eq (BitVec.ofNat 32 x) (BitVec.ofNat 32 y)) with h | h
    · rw [h, if_pos (q.1 h)]
    · rw [h, if_neg fun he => absurd ((q.2 he).symm.trans h) (by decide)]
  rw [e a b ha hb, e c d hc hd]
  refine congrArg _ ?_
  split_ifs <;> simp [IntOp.andi]

end Cert.Gat

end
-- ==== Proof.Nest.lean ====
/- The matrices that the program puts together on the host from the weights it is given. -/
module

public import proofs.«01_k».proof.Proof.Arrays
public import Idealize.ShloMosaic.Lib.Claim
public import Idealize.ShloMosaic.Lib.StableHlo.ReadAt

@[expose] public section

set_option maxHeartbeats 4000000

noncomputable section

namespace Cert.Gat

open Idealize.ShloMosaic Cert.KernelIdeal Cert.KernelIdeal.Gen
open Idealize.ShloMosaic.TcCoe
open Cert.KernelIdeal.Facts Cert.KernelIdeal.Facts₀
open scoped BigOperators

/-! ## The matrices -/

/-- The attention vectors as a matrix: column `k` holds head `k`'s half for the row itself, column `4 + k` its half for the
    neighbour; `n` is a head's width. -/
def attn (n : ℕ) (A : ℕ → ℕ → ℝ) (r j : ℕ) : ℝ :=
  if j < 4 then if r / n = j then A j (r % n) else 0 else if r / n = j - 4 then A (j - 4) (n + r % n) else 0

/-- The first layer's weights, one block for each head. -/
def block1 (W1 : ℕ → ℕ → ℕ → ℝ) (c h : ℕ) : ℝ := if c / 4 = h / 64 then W1 (c / 4) (c % 4) (h % 64) else 0

/-- The second layer's weights, with a head's hidden unit on the outer place of its row. -/
def block2 (W2 : ℕ → ℕ → ℕ → ℝ) (h q : ℕ) : ℝ := W2 (q / 12) (h % 64 * 4 + h / 64) (q % 12)

/-- A vector for each head, end to end. -/
def flat (n : ℕ) (b : ℕ → ℕ → ℝ) (j : ℕ) : ℝ := b (j / n) (j % n)

/-- The first layer's weights applied to the attention vectors. -/
def wabOf (W1 : ℕ → ℕ → ℕ → ℝ) (A1 : ℕ → ℕ → ℝ) (f j : ℕ) : ℝ :=
  ∑ k ∈ Finset.range 256, W1 (k / 64) f (k % 64) * attn 64 A1 k j

/-- The first layer's offsets applied to the attention vectors. -/
def sbOf (b1 A1 : ℕ → ℕ → ℝ) (j : ℕ) : ℝ := ∑ k ∈ Finset.range 256, flat 64 b1 k * attn 64 A1 k j

/-! ## The programs' operations by name -/

theorem place_fn : ((fun a b => concatenate S2 0 [⟨S1, a⟩, ⟨S1, b⟩] Gen.concatenates_S1_S1_S2_d0) :
    (⟨S1, .i32⟩ : BufTy).Contents (Elt Ideal) → (⟨S1, .i32⟩ : BufTy).Contents (Elt Ideal) →
      (⟨S2, .i32⟩ : BufTy).Contents (Elt Ideal)) = fun a b => place a b Gen.concatenates_S1_S1_S2_d0 := rfl

/-- The eight columns of attention vectors, written one after the other. -/
theorem attn_eq (n : ℕ) (hn : 0 < n) (A : ℕ → ℕ → ℝ) (r c : ℕ) (hr : r < 4 * n) (hc : c < 8) :
    putCol n (3 * n) 7 (fun t => A 3 (n + t)) (putCol n (3 * n) 3 (A 3) (putCol n (2 * n) 6 (fun t => A 2 (n + t))
      (putCol n (2 * n) 2 (A 2) (putCol n n 5 (fun t => A 1 (n + t)) (putCol n n 1 (A 1)
        (putCol n 0 4 (fun t => A 0 (n + t)) (putCol n 0 0 (A 0) fun _ _ => 0))))))) r c = attn n A r c := by
  have key : ∀ k, r / n = k ↔ k * n ≤ r ∧ r < k * n + n := by
    intro k
    rw [Nat.div_eq_iff hn]
    omega
  have hmod : ∀ k, k * n ≤ r ∧ r < k * n + n → r % n = r - k * n := by
    intro k hk
    have e : r = (r - k * n) + n * k := by rw [Nat.mul_comm n k]; omega
    rw [e, Nat.add_mul_mod_self_left, Nat.mod_eq_of_lt (by omega)]
    rw [Nat.mul_comm k n]; omega
  have m0 := hmod 0; have m1 := hmod 1; have m2 := hmod 2; have m3 := hmod 3
  unfold putCol attn
  interval_cases c <;> simp only [key] <;> norm_num <;> split_ifs <;>
    first | rfl | omega | (rw [m0 (by omega)]; simp) | (rw [m1 (by omega)]; simp) | (rw [m2 (by omega)]) | (rw [m3 (by omega)])

/-- One head's half of the attention vectors. -/
def half {N n : ℕ} (A : FVec Ideal ⟨3, ![4, N, 1]⟩ .f32) (o0 o1 : ℕ) (h : (⟨3, ![4, N, 1]⟩ : Shape).Slices ![o0, o1, 0] ⟨3, ![1, n, 1]⟩)
    (h' : (⟨3, ![1, n, 1]⟩ : Shape).ShapeCasts ⟨1, ![n]⟩) : FVec Ideal ⟨1, ![n]⟩ .f32 :=
  shapeCast ⟨1, ![n]⟩ (extractStridedSlice ⟨3, ![1, n, 1]⟩ ![o0, o1, 0] A h) h'

theorem half_eq {N n : ℕ} (A : ℕ → ℕ → ℕ → ℝ) (o0 o1 : ℕ) (h h') :
    half (N := N) (n := n) (cube 4 N 1 A) o0 o1 h h' = vec n fun t => A o0 (o1 + t) 0 := by
  unfold half
  rw [slice_cube, shapeCast_cube_vec]
  rfl

/-- A vector written into a column of a matrix. -/
def put {R n : ℕ} (d : ScatterDims ⟨2, ![R, 8]⟩ ⟨1, ![2]⟩ ⟨1, ![n]⟩) (i j : BitVec 32) (u : FVec Ideal ⟨1, ![n]⟩ .f32)
    (M : FVec Ideal ⟨2, ![R, 8]⟩ .f32) : FVec Ideal ⟨2, ![R, 8]⟩ .f32 :=
  Host.scatter d (fun _ b => b) M (place (broadcastInDim S1 ![] Gen.bcast_S_S1 (constantI S_ 32 i))
    (broadcastInDim S1 ![] Gen.bcast_S_S1 (constantI S_ 32 j)) Gen.concatenates_S1_S1_S2_d0) u

/-- A matrix written into a block of a matrix. -/
def putM (i j : BitVec 32) (u : FVec Ideal ⟨2, ![4, 64]⟩ .f32)
    (M : FVec Ideal ⟨2, ![16, 256]⟩ .f32) : FVec Ideal ⟨2, ![16, 256]⟩ .f32 :=
  Host.scatter scatter_S16x256_S2_S4x64_01_n_01_0 (fun _ b => b) M (place (broadcastInDim S1 ![] Gen.bcast_S_S1 (constantI S_ 32 i))
    (broadcastInDim S1 ![] Gen.bcast_S_S1 (constantI S_ 32 j)) Gen.concatenates_S1_S1_S2_d0) u

/-- The first layer's attention vectors in a matrix. -/
def nest64 (A : FVec Ideal ⟨3, ![4, 128, 1]⟩ .f32) : FVec Ideal ⟨2, ![256, 8]⟩ .f32 :=
  let d := scatter_S256x8_S2_S64_0_1_01_0
  put d 192#32 7#32 (half A 3 64 Gen.slices_S4x128x1_S1x64x1_3_64_0 Gen.shapeCasts_S1x64x1_S64)
    (put d 192#32 3#32 (half A 3 0 Gen.slices_S4x128x1_S1x64x1_3_0_0 Gen.shapeCasts_S1x64x1_S64)
    (put d 128#32 6#32 (half A 2 64 Gen.slices_S4x128x1_S1x64x1_2_64_0 Gen.shapeCasts_S1x64x1_S64)
    (put d 128#32 2#32 (half A 2 0 Gen.slices_S4x128x1_S1x64x1_2_0_0 Gen.shapeCasts_S1x64x1_S64)
    (put d 64#32 5#32 (half A 1 64 Gen.slices_S4x128x1_S1x64x1_1_64_0 Gen.shapeCasts_S1x64x1_S64)
    (put d 64#32 1#32 (half A 1 0 Gen.slices_S4x128x1_S1x64x1_1_0_0 Gen.shapeCasts_S1x64x1_S64)
    (put d 0#32 4#32 (half A 0 64 Gen.slices_S4x128x1_S1x64x1_0_64_0 Gen.shapeCasts_S1x64x1_S64)
    (put d 0#32 0#32 (half A 0 0 Gen.slices_S4x128x1_S1x64x1_0_0_0 Gen.shapeCasts_S1x64x1_S64)
      (broadcastInDim S256x8 ![] Gen.bcast_S_S256x8 (constant S_ .f32 0x00000000#32)))))))))

/-- The second layer's attention vectors in a matrix. -/
def nest12 (A : FVec Ideal ⟨3, ![4, 24, 1]⟩ .f32) : FVec Ideal ⟨2, ![48, 8]⟩ .f32 :=
  let d := scatter_S48x8_S2_S12_0_1_01_0
  put d 36#32 7#32 (half A 3 12 Gen.slices_S4x24x1_S1x12x1_3_12_0 Gen.shapeCasts_S1x12x1_S12)
    (put d 36#32 3#32 (half A 3 0 Gen.slices_S4x24x1_S1x12x1_3_0_0 Gen.shapeCasts_S1x12x1_S12)
    (put d 24#32 6#32 (half A 2 12 Gen.slices_S4x24x1_S1x12x1_2_12_0 Gen.shapeCasts_S1x12x1_S12)
    (put d 24#32 2#32 (half A 2 0 Gen.slices_S4x24x1_S1x12x1_2_0_0 Gen.shapeCasts_S1x12x1_S12)
    (put d 12#32 5#32 (half A 1 12 Gen.slices_S4x24x1_S1x12x1_1_12_0 Gen.shapeCasts_S1x12x1_S12)
    (put d 12#32 1#32 (half A 1 0 Gen.slices_S4x24x1_S1x12x1_1_0_0 Gen.shapeCasts_S1x12x1_S12)
    (put d 0#32 4#32 (half A 0 12 Gen.slices_S4x24x1_S1x12x1_0_12_0 Gen.shapeCasts_S1x12x1_S12)
    (put d 0#32 0#32 (half A 0 0 Gen.slices_S4x24x1_S1x12x1_0_0_0 Gen.shapeCasts_S1x12x1_S12)
      (broadcastInDim S48x8 ![] Gen.bcast_S_S48x8 (constant S_ .f32 0x00000000#32)))))))))

/-- One head's weights. -/
def headW (W : FVec Ideal ⟨3, ![4, 4, 64]⟩ .f32) (k : ℕ) (h : (⟨3, ![4, 4, 64]⟩ : Shape).Slices ![k, 0, 0] ⟨3, ![1, 4, 64]⟩) :
    FVec Ideal ⟨2, ![4, 64]⟩ .f32 :=
  shapeCast ⟨2, ![4, 64]⟩ (extractStridedSlice ⟨3, ![1, 4, 64]⟩ ![k, 0, 0] W h) Gen.shapeCasts_S1x4x64_S4x64

theorem headW_eq (W : ℕ → ℕ → ℕ → ℝ) (k : ℕ) (h) : headW (cube 4 4 64 W) k h = mat 4 64 (W k) := by
  unfold headW
  rw [slice_cube, shapeCast_cube_mat]
  simp only [Nat.zero_add, Nat.add_zero]

/-- The first layer's weights in blocks. -/
def nestW (W : FVec Ideal ⟨3, ![4, 4, 64]⟩ .f32) : FVec Ideal ⟨2, ![16, 256]⟩ .f32 :=
  putM 12#32 192#32 (headW W 3 Gen.slices_S4x4x64_S1x4x64_3_0_0)
    (putM 8#32 128#32 (headW W 2 Gen.slices_S4x4x64_S1x4x64_2_0_0)
    (putM 4#32 64#32 (headW W 1 Gen.slices_S4x4x64_S1x4x64_1_0_0)
    (putM 0#32 0#32 (headW W 0 Gen.slices_S4x4x64_S1x4x64_0_0_0)
      (broadcastInDim S16x256 ![] Gen.bcast_S_S16x256 (constant S_ .f32 0x00000000#32)))))

theorem put_eq {R n : ℕ} (d : ScatterDims ⟨2, ![R, 8]⟩ ⟨1, ![2]⟩ ⟨1, ![n]⟩) (hn : 0 < n)
    (hiw : d.insertedWindowDims = [1]) (hsd : d.scatterDimsToOperandDims = [0, 1]) (hivd : d.indexVectorDim = 0)
    (M : ℕ → ℕ → ℝ) (u : ℕ → ℝ) (i j : BitVec 32) (hi : i.toNat < 2 ^ 31) (hj : j.toNat < 2 ^ 31) :
    put d i j (vec n u) (mat R 8 M) = mat R 8 (putCol n i.toNat j.toNat u M) :=
  scatter_col d hn hiw hsd hivd M u i j hi hj _ _ _

theorem putM_eq (M u : ℕ → ℕ → ℝ) (i j : BitVec 32) (hi : i.toNat < 2 ^ 31) (hj : j.toNat < 2 ^ 31) :
    putM i j (mat 4 64 u) (mat 16 256 M) = mat 16 256 (putBlock 4 64 i.toNat j.toNat u M) :=
  scatter_block _ (fun _ => ⟨rfl, rfl⟩) rfl rfl M u i j hi hj _ _ _

theorem nest64_eq (A : ℕ → ℕ → ℝ) : nest64 (cube 4 128 1 fun k t _ => A k t) = mat 256 8 (attn 64 A) := by
  unfold nest64
  dsimp only
  simp only [half_eq]
  rw [zeros_mat]
  iterate 8 rw [put_eq _ (by decide) rfl rfl rfl _ _ _ _ (by decide) (by decide)]
  refine mat_congr fun r c hr hc => ?_
  rw [← attn_eq 64 (by decide) A r c (by omega) hc]
  simp

theorem nest12_eq (A : ℕ → ℕ → ℝ) : nest12 (cube 4 24 1 fun k t _ => A k t) = mat 48 8 (attn 12 A) := by
  unfold nest12
  dsimp only
  simp only [half_eq]
  rw [zeros_mat]
  iterate 8 rw [put_eq _ (by decide) rfl rfl rfl _ _ _ _ (by decide) (by decide)]
  refine mat_congr fun r c hr hc => ?_
  rw [← attn_eq 12 (by decide) A r c (by omega) hc]
  simp

theorem nestW_eq (W : ℕ → ℕ → ℕ → ℝ) : nestW (cube 4 4 64 W) = mat 16 256 (block1 W) := by
  unfold nestW
  simp only [headW_eq]
  rw [zeros_mat]
  iterate 4 rw [putM_eq _ _ _ _ (by decide) (by decide)]
  refine mat_congr fun r c hr hc => ?_
  have e : r / 4 = 0 ∨ r / 4 = 1 ∨ r / 4 = 2 ∨ r / 4 = 3 := by omega
  have hm : c / 64 * 64 + c % 64 = c := by omega
  have hm' : r / 4 * 4 + r % 4 = r := by omega
  unfold putBlock block1
  simp only [BitVec.toNat_ofNat]
  norm_num
  split_ifs <;> first | rfl | omega | (congr 1 <;> omega)

/-! ## The padded ring -/

/-- The eight last nodes, all nodes, the eight first nodes. -/
def halo (a : (⟨S64x8x4, .f32⟩ : BufTy).Contents (Elt Ideal)) (b : (⟨S64x400x4, .f32⟩ : BufTy).Contents (Elt Ideal))
    (d : (⟨S64x8x4, .f32⟩ : BufTy).Contents (Elt Ideal)) : (⟨S64x416x4, .f32⟩ : BufTy).Contents (Elt Ideal) :=
  concatenate S64x416x4 1 [⟨S64x8x4, a⟩, ⟨S64x400x4, b⟩, ⟨S64x8x4, d⟩] Gen.concatenates_S64x8x4_S64x400x4_S64x8x4_S64x416x4_d1

theorem halo_fn : (fun (u : ∀ k, ((![main_v8, main_v7, main_v9] : Fin 3 → Ref sig .tc) k).ty.Contents (Elt Ideal)) =>
      (concatenate S64x416x4 1 [⟨S64x8x4, (u 0 : (⟨S64x8x4, .f32⟩ : BufTy).Contents (Elt Ideal))⟩,
        ⟨S64x400x4, (u 1 : (⟨S64x400x4, .f32⟩ : BufTy).Contents (Elt Ideal))⟩,
        ⟨S64x8x4, (u 2 : (⟨S64x8x4, .f32⟩ : BufTy).Contents (Elt Ideal))⟩]
        Gen.concatenates_S64x8x4_S64x400x4_S64x8x4_S64x416x4_d1 : (⟨S64x416x4, .f32⟩ : BufTy).Contents (Elt Ideal)))
    = fun u => halo (u 0) (u 1) (u 2) := rfl

theorem halo_eq (f : ℕ → ℕ → ℕ → ℝ) :
    halo (cube 64 8 4 fun b r j => f b (392 + r) j) (cube 64 400 4 f) (cube 64 8 4 f)
      = cube 64 416 4 fun b r j => f b ((r + 392) % 400) j := by
  funext y
  have h0 : (y 0).val < 64 := (y 0).isLt
  have h1 : (y 1).val < 416 := (y 1).isLt
  have h2 : (y 2).val < 4 := (y 2).isLt
  have val : ∀ r, r = ((y 1).val + 392) % 400 → ((f (y 0).val r (y 2).val : ℝ) : EReal)
      = cube 64 416 4 (fun b r j => f b ((r + 392) % 400) j) y := by
    intro r hr; rw [hr]; rfl
  rcases lt_or_ge (y 1).val 8 with hA | hA
  · refine Eq.trans (concatenate_apply_piece (t := S64x416x4) 1 _ _ y 0 (by simp) S64x8x4 _ rfl rfl 0 rfl
      (ValueIdx.ix3 (⟨(y 0).val, h0⟩ : Fin 64) (⟨(y 1).val, hA⟩ : Fin 8) (⟨(y 2).val, h2⟩ : Fin 4)) ?_ ?_) (val _ ?_)
    · intro b hb
      match b with
      | ⟨0, _⟩ => rfl
      | ⟨1, _⟩ => exact absurd rfl hb
      | ⟨2, _⟩ => rfl
    · exact Nat.zero_add _
    · show 392 + (y 1).val = _
      omega
  · rcases lt_or_ge (y 1).val 408 with hB | hB
    · refine Eq.trans (concatenate_apply_piece (t := S64x416x4) 1 _ _ y 1 (by simp) S64x400x4 _ rfl rfl 8 rfl
        (ValueIdx.ix3 (⟨(y 0).val, h0⟩ : Fin 64) (⟨(y 1).val - 8, by omega⟩ : Fin 400) (⟨(y 2).val, h2⟩ : Fin 4)) ?_ ?_) (val _ ?_)
      · intro b hb
        match b with
        | ⟨0, _⟩ => rfl
        | ⟨1, _⟩ => exact absurd rfl hb
        | ⟨2, _⟩ => rfl
      · show 8 + ((y 1).val - 8) = (y 1).val
        omega
      · show (y 1).val - 8 = _
        omega
    · refine Eq.trans (concatenate_apply_piece (t := S64x416x4) 1 _ _ y 2 (by simp) S64x8x4 _ rfl rfl 408 rfl
        (ValueIdx.ix3 (⟨(y 0).val, h0⟩ : Fin 64) (⟨(y 1).val - 408, by omega⟩ : Fin 8) (⟨(y 2).val, h2⟩ : Fin 4)) ?_ ?_) (val _ ?_)
      · intro b hb
        match b with
        | ⟨0, _⟩ => rfl
        | ⟨1, _⟩ => exact absurd rfl hb
        | ⟨2, _⟩ => rfl
      · show 408 + ((y 1).val - 408) = (y 1).val
        omega
      · show (y 1).val - 408 = _
        omega

/-- Groups of eight batches side by side. -/
def chunks (G R L : ℕ) (A : ℕ → ℕ → ℕ → ℝ) : FVec Ideal ⟨3, ![G, R, L]⟩ .f32 :=
  fun i => ((A (8 * (i 0).val + (i 2).val % 8) (i 1).val ((i 2).val / 8) : ℝ) : EReal)

/-- The features copied for the four heads, and the batches put side by side in groups of eight. -/
theorem wide_eq (f : ℕ → ℕ → ℕ → ℝ) (g1 g2 g3 g4 g5 g6) :
    shapeCast S8x416x128 (transpose S8x416x16x8 [0, 2, 3, 1] (shapeCast S8x8x416x16 (shapeCast S64x416x16
      (broadcastInDim S1x64x1x416x4x4 ![0, 1, 2, 3, 4, 5] g1 (shapeCast S1x64x1x416x1x4 (cube 64 416 4 f) g2)) g3) g4) g5) g6
      = chunks 8 416 128 fun b r j => f b r (j % 4) := by
  funext y
  have h0 : (y 0).val < 8 := (y 0).isLt
  have h1 : (y 1).val < 416 := (y 1).isLt
  have h2 : (y 2).val < 128 := (y 2).isLt
  have e : ∀ j, j < 16 → 4 * (j / 4) + j % 4 = j := fun j _ => by omega
  rw [shapeCast_apply _ g6 y (ValueIdx.ix4 (⟨(y 0).val, h0⟩ : Fin 8) (⟨(y 1).val, h1⟩ : Fin 416)
      (⟨(y 2).val / 8, by omega⟩ : Fin 16) (⟨(y 2).val % 8, by omega⟩ : Fin 8)) ?_,
    transpose_apply _ _ g5 _ (ValueIdx.ix4 (⟨(y 0).val, h0⟩ : Fin 8) (⟨(y 2).val % 8, by omega⟩ : Fin 8)
      (⟨(y 1).val, h1⟩ : Fin 416) (⟨(y 2).val / 8, by omega⟩ : Fin 16)) ?_,
    shapeCast_apply _ g4 _ (ValueIdx.ix3 (⟨8 * (y 0).val + (y 2).val % 8, by omega⟩ : Fin 64) (⟨(y 1).val, h1⟩ : Fin 416)
      (⟨(y 2).val / 8, by omega⟩ : Fin 16)) ?_,
    shapeCast_apply _ g3 _ (ValueIdx.ix6 (0 : Fin 1) (⟨8 * (y 0).val + (y 2).val % 8, by omega⟩ : Fin 64) (0 : Fin 1)
      (⟨(y 1).val, h1⟩ : Fin 416) (⟨(y 2).val / 8 / 4, by omega⟩ : Fin 4) (⟨(y 2).val / 8 % 4, by omega⟩ : Fin 4)) ?_,
    broadcastInDim_apply _ g1 _ _ (ValueIdx.ix6 (0 : Fin 1) (⟨8 * (y 0).val + (y 2).val % 8, by omega⟩ : Fin 64) (0 : Fin 1)
      (⟨(y 1).val, h1⟩ : Fin 416) (0 : Fin 1) (⟨(y 2).val / 8 % 4, by omega⟩ : Fin 4)) ?_,
    shapeCast_apply _ g2 _ (ValueIdx.ix3 (⟨8 * (y 0).val + (y 2).val % 8, by omega⟩ : Fin 64) (⟨(y 1).val, h1⟩ : Fin 416)
      (⟨(y 2).val / 8 % 4, by omega⟩ : Fin 4)) ?_]
  · rfl
  · rw [Shape.rowMajor_val_six, Shape.rowMajor_val_three]
    show (((8 * (y 0).val + (y 2).val % 8) * 416 + (y 1).val) * 4 + (y 2).val / 8 % 4)
      = ((((0 * 64 + (8 * (y 0).val + (y 2).val % 8)) * 1 + 0) * 416 + (y 1).val) * 1 + 0) * 4 + (y 2).val / 8 % 4
    omega
  · intro b
    match b with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_six, Shape.rowMajor_val_three]
    show ((((0 * 64 + (8 * (y 0).val + (y 2).val % 8)) * 1 + 0) * 416 + (y 1).val) * 4 + (y 2).val / 8 / 4) * 4 + (y 2).val / 8 % 4
      = ((8 * (y 0).val + (y 2).val % 8) * 416 + (y 1).val) * 16 + (y 2).val / 8
    omega
  · rw [Shape.rowMajor_val_four, Shape.rowMajor_val_three]
    show ((8 * (y 0).val + (y 2).val % 8) * 416 + (y 1).val) * 16 + (y 2).val / 8
      = (((y 0).val * 8 + (y 2).val % 8) * 416 + (y 1).val) * 16 + (y 2).val / 8
    omega
  · intro b
    match b with
    | ⟨0, _⟩ => rfl
    | ⟨1, _⟩ => rfl
    | ⟨2, _⟩ => rfl
    | ⟨3, _⟩ => rfl
  · rw [Shape.rowMajor_val_four, Shape.rowMajor_val_three]
    show (((y 0).val * 416 + (y 1).val) * 16 + (y 2).val / 8) * 8 + (y 2).val % 8 = ((y 0).val * 416 + (y 1).val) * 128 + (y 2).val
    omega

/-! ## The other layouts -/

/-- The scores' offsets, repeated for the eight directions. -/
theorem offsets_eq (c : ℕ → ℝ) (g1 g2 g3 g4) :
    shapeCast S1x32 (broadcastInDim S1x1x8x4 ![0, 1, 2, 3] g1 (shapeCast S1x1x1x4
      (shapeCast S1x4 (mat 4 1 fun k _ => c k) g2) g3)) g4 = mat 1 32 fun _ j => c (j % 4) := by
  funext y
  have h0 : (y 0).val < 1 := (y 0).isLt
  have h1 : (y 1).val < 32 := (y 1).isLt
  rw [shapeCast_apply _ g4 y (ValueIdx.ix4 (0 : Fin 1) (0 : Fin 1) (⟨(y 1).val / 4, by omega⟩ : Fin 8)
      (⟨(y 1).val % 4, by omega⟩ : Fin 4)) ?_,
    broadcastInDim_apply _ g1 _ _ (ValueIdx.ix4 (0 : Fin 1) (0 : Fin 1) (0 : Fin 1) (⟨(y 1).val % 4, by omega⟩ : Fin 4)) ?_,
    shapeCast_apply _ g3 _ (ValueIdx.ix2 (0 : Fin 1) (⟨(y 1).val % 4, by omega⟩ : Fin 4)) ?_,
    shapeCast_apply _ g2 _ (ValueIdx.ix2 (⟨(y 1).val % 4, by omega⟩ : Fin 4) (0 : Fin 1)) ?_]
  · rfl
  · rw [Shape.rowMajor_val_two, Shape.rowMajor_val_two]
    show (y 1).val % 4 * 1 + 0 = 0 * 4 + (y 1).val % 4
    omega
  · rw [Shape.rowMajor_val_two, Shape.rowMajor_val_four]
    show 0 * 4 + (y 1).val % 4 = ((0 * 1 + 0) * 1 + 0) * 4 + (y 1).val % 4
    omega
  · intro b
    match b with
    | ⟨0, _⟩ => rfl
    | ⟨1, _⟩ => rfl
    | ⟨2, _⟩ => rfl
    | ⟨3, _⟩ => rfl
  · rw [Shape.rowMajor_val_two, Shape.rowMajor_val_four]
    show ((0 * 1 + 0) * 8 + (y 1).val / 4) * 4 + (y 1).val % 4 = (y 0).val * 32 + (y 1).val
    omega

/-- The second layer's weights as a matrix. -/
theorem block2_eq (W : ℕ → ℕ → ℕ → ℝ) (g1 g2 g3 g4 g5) :
    shapeCast S256x48 (transpose S256x4x12 [1, 0, 2] (shapeCast S4x256x12 (transpose S4x4x64x12 [0, 2, 1, 3]
      (shapeCast S4x64x4x12 (cube 4 256 12 W) g1) g2) g3) g4) g5 = mat 256 48 (block2 W) := by
  funext y
  have h0 : (y 0).val < 256 := (y 0).isLt
  have h1 : (y 1).val < 48 := (y 1).isLt
  rw [shapeCast_apply _ g5 y (ValueIdx.ix3 (⟨(y 0).val, h0⟩ : Fin 256) (⟨(y 1).val / 12, by omega⟩ : Fin 4)
      (⟨(y 1).val % 12, by omega⟩ : Fin 12)) ?_,
    transpose_apply _ _ g4 _ (ValueIdx.ix3 (⟨(y 1).val / 12, by omega⟩ : Fin 4) (⟨(y 0).val, h0⟩ : Fin 256)
      (⟨(y 1).val % 12, by omega⟩ : Fin 12)) ?_,
    shapeCast_apply _ g3 _ (ValueIdx.ix4 (⟨(y 1).val / 12, by omega⟩ : Fin 4) (⟨(y 0).val / 64, by omega⟩ : Fin 4)
      (⟨(y 0).val % 64, by omega⟩ : Fin 64) (⟨(y 1).val % 12, by omega⟩ : Fin 12)) ?_,
    transpose_apply _ _ g2 _ (ValueIdx.ix4 (⟨(y 1).val / 12, by omega⟩ : Fin 4) (⟨(y 0).val % 64, by omega⟩ : Fin 64)
      (⟨(y 0).val / 64, by omega⟩ : Fin 4) (⟨(y 1).val % 12, by omega⟩ : Fin 12)) ?_,
    shapeCast_apply _ g1 _ (ValueIdx.ix3 (⟨(y 1).val / 12, by omega⟩ : Fin 4)
      (⟨(y 0).val % 64 * 4 + (y 0).val / 64, by omega⟩ : Fin 256) (⟨(y 1).val % 12, by omega⟩ : Fin 12)) ?_]
  · rfl
  · rw [Shape.rowMajor_val_four, Shape.rowMajor_val_three]
    show ((y 1).val / 12 * 256 + ((y 0).val % 64 * 4 + (y 0).val / 64)) * 12 + (y 1).val % 12
      = (((y 1).val / 12 * 64 + (y 0).val % 64) * 4 + (y 0).val / 64) * 12 + (y 1).val % 12
    omega
  · intro b
    match b with
    | ⟨0, _⟩ => rfl
    | ⟨1, _⟩ => rfl
    | ⟨2, _⟩ => rfl
    | ⟨3, _⟩ => rfl
  · rw [Shape.rowMajor_val_four, Shape.rowMajor_val_three]
    show (((y 1).val / 12 * 4 + (y 0).val / 64) * 64 + (y 0).val % 64) * 12 + (y 1).val % 12
      = ((y 1).val / 12 * 256 + (y 0).val) * 12 + (y 1).val % 12
    omega
  · intro b
    match b with
    | ⟨0, _⟩ => rfl
    | ⟨1, _⟩ => rfl
    | ⟨2, _⟩ => rfl
  · rw [Shape.rowMajor_val_three, Shape.rowMajor_val_two]
    show ((y 0).val * 4 + (y 1).val / 12) * 12 + (y 1).val % 12 = (y 0).val * 48 + (y 1).val
    omega

end Cert.Gat

end
-- ==== Proof.Tables.lean ====
/- The dense constant tables of the program, entry by entry. A table is a tree of choices on its index's digits; it is
   compared, as a whole, with a tree of the same form whose entries are given by a formula. -/
module

public import proofs.«01_k».proof.KernelIdeal

@[expose] public section

set_option maxHeartbeats 40000000
set_option maxRecDepth 100000

noncomputable section

namespace Cert.Gat

open Cert.KernelIdeal

/-- Entry `x` of the last `n` of `N` entries, tried one after another. -/
def pick (N : ℕ) (v : ℕ → BitVec 32) (x n : ℕ) : BitVec 32 :=
  Nat.rec (motive := fun _ => BitVec 32) 0#32 (fun n r =>
    dite (x = N - (n + 1)) (fun h => Eq.ndrec_symm (motive := fun _ => BitVec 32) (v (N - (n + 1))) h) fun _ => r) n

theorem pick_last (N : ℕ) (v : ℕ → BitVec 32) (x n : ℕ) (hn : n ≤ N) (hx : x < N) (h : N - n ≤ x) : pick N v x n = v x := by
  induction n with
  | zero => omega
  | succ n ih =>
    show dite (x = N - (n + 1)) (fun h => Eq.ndrec_symm (motive := fun _ => BitVec 32) (v (N - (n + 1))) h) (fun _ => pick N v x n) = v x
    split
    · next e => subst e; rfl
    · exact ih (by omega) (by omega)

/-- Entry `x` of `N` entries. -/
theorem pick_at (N : ℕ) (v : ℕ → BitVec 32) (x : ℕ) (hx : x < N) : pick N v x N = v x :=
  pick_last N v x N le_rfl hx (by omega)

/-- A table of `128 * N` entries. -/
def tree2 (N : ℕ) (v : ℕ → BitVec 32) (i : ℕ) : BitVec 32 :=
  pick N (fun r => pick 128 (fun c => v (128 * r + c)) (i % 128) 128) (i / 128) N

theorem tree2_at (N : ℕ) (v : ℕ → BitVec 32) (i : ℕ) (h : i < 128 * N) : tree2 N v i = v i := by
  unfold tree2
  rw [pick_at N _ _ (by omega), pick_at 128 _ _ (by omega), Nat.div_add_mod]

/-- The word of a one where both tests hold, and of a zero elsewhere. -/
def bit (lanes blocks : Bool) : BitVec 32 := if lanes && blocks then 0x3F800000#32 else 0x00000000#32

/-- Entry `i` of a table with rows of `Q`: a one where row and column have the same lane and the row's block is the one
    that `f` gives to the column's. -/
def entry (Q : ℕ) (f : ℕ → ℕ) (i : ℕ) : BitVec 32 :=
  bit (Nat.beq (i / Q % 8) (i % Q % 8)) (Nat.beq (i / Q / 8) (f (i % Q / 8)))

set_option smartUnfolding false in
theorem lit0_tree : lit0t = tree2 32 (entry 128 (· / 4)) := (rfl)

set_option smartUnfolding false in
theorem lit1_tree : lit1t = tree2 96 (entry 384 (· / 12)) := (rfl)

set_option smartUnfolding false in
theorem lit2_tree : lit2t = tree2 64 (entry 256 (· % 4)) := (rfl)

end Cert.Gat

end
-- ==== Proof.Constants.lean ====
/- The constant tables as arrays of zeros and ones. -/
module

public import proofs.«01_k».proof.Proof.Tables
public import proofs.«01_k».proof.Proof.Block
public import Idealize.ShloMosaic.Lib.IdealHost

@[expose] public section

set_option maxHeartbeats 1000000

noncomputable section

namespace Cert.Gat

open Idealize.ShloMosaic Cert.KernelIdeal

theorem beq_decide (u v : ℕ) : Nat.beq u v = decide (u = v) := by
  by_cases h : u = v
  · rw [decide_eq_true h, h, Nat.beq_refl]
  · rw [decide_eq_false h, Bool.eq_false_iff]
    exact fun h' => h (Nat.eq_of_beq_eq_true h')

theorem bit_real (a b c d : ℕ) :
    (FloatOps.ofBits .f32 (bit (Nat.beq a b) (Nat.beq c d)) : Ideal .f32) = ((if a = b then if c = d then 1 else 0 else 0 : ℝ) : EReal) := by
  have h1 : (FloatOps.ofBits .f32 0x3F800000#32 : Ideal .f32) = ((1 : ℝ) : EReal) :=
    Ideal.ofBits_one_f32.trans EReal.coe_one.symm
  have h0 : (FloatOps.ofBits .f32 0x00000000#32 : Ideal .f32) = ((0 : ℝ) : EReal) :=
    Ideal.ofBits_zero_f32.trans EReal.coe_zero.symm
  unfold bit
  rw [beq_decide, beq_decide]
  by_cases h : a = b <;> by_cases h' : c = d <;> simp only [h, h', decide_true, decide_false] <;>
    simp only [Bool.and_true, Bool.and_false, if_true, if_false, Bool.false_eq_true] <;> first | exact h1 | exact h0

/-- A table with rows of `Q` holds the selection that its entries spell. -/
theorem entry_spread (P Q : ℕ) (f : ℕ → ℕ) (t : Fin (⟨2, ![P, Q]⟩ : Shape).numel → BitVec 32) (h : ∀ i, t i = entry Q f i.val) :
    (fun i => (FloatOps.ofBits .f32 (t ((⟨2, ![P, Q]⟩ : Shape).rowMajor i)) : Ideal .f32)) = spread P Q (sel f) := by
  funext i
  have hq : (i 1).val < Q := (i 1).isLt
  rw [h, Shape.rowMajor_val_two]
  have e1 : ((i 0).val * Q + (i 1).val) / Q = (i 0).val := by
    rw [Nat.add_comm, Nat.add_mul_div_right _ _ (by omega), Nat.div_eq_of_lt hq, Nat.zero_add]
  have e2 : ((i 0).val * Q + (i 1).val) % Q = (i 1).val := by
    rw [Nat.add_comm, Nat.add_mul_mod_self_right, Nat.mod_eq_of_lt hq]
  unfold entry
  erw [e1, e2]
  exact bit_real _ _ _ _

theorem table1_eq : (fun i => (FloatOps.ofBits .f32 (lit0 (S32x128.rowMajor i)) : Ideal .f32)) = spread 32 128 (sel (· / 4)) :=
  entry_spread 32 128 _ lit0 fun i => (congrFun lit0_tree i.val).trans (tree2_at 32 _ _ i.isLt)

theorem table2_eq : (fun i => (FloatOps.ofBits .f32 (lit1 (S32x384.rowMajor i)) : Ideal .f32)) = spread 32 384 (sel (· / 12)) :=
  entry_spread 32 384 _ lit1 fun i => (congrFun lit1_tree i.val).trans (tree2_at 96 _ _ i.isLt)

theorem table3_eq : (fun i => (FloatOps.ofBits .f32 (lit2 (S32x256.rowMajor i)) : Ideal .f32)) = spread 32 256 (sel (· % 4)) :=
  entry_spread 32 256 _ lit2 fun i => (congrFun lit2_tree i.val).trans (tree2_at 64 _ _ i.isLt)

end Cert.Gat

end
-- ==== Proof.Operands.lean ====
/- What the kernel is given: each operand that the program prepares on the host, as an array of reals. -/
module

public import proofs.«01_k».proof.Proof.Nest
public import proofs.«01_k».proof.Proof.Constants
public import Idealize.ShloMosaic.Lib.Claim
public import Idealize.ShloMosaic.Lib.StableHlo.ReadAt

@[expose] public section

set_option maxHeartbeats 4000000

noncomputable section

namespace Cert.Gat

open Idealize.ShloMosaic Cert.KernelIdeal Cert.KernelIdeal.Gen
open Idealize.ShloMosaic.TcCoe
open Cert.KernelIdeal.Facts Cert.KernelIdeal.Facts₀
open scoped BigOperators

section

variable (m : (ℓ : Loc nD τ sig) → Buf (Elt Ideal) ℓ) (c : Dev nD)
variable (X W1 W2 : ℕ → ℕ → ℕ → ℝ) (b1 A1 b2 A2 : ℕ → ℕ → ℝ) (c1 c2 : ℕ → ℝ)

theorem x0_eq (h0 : m (c, Proc.tc.devRef main_arg0) = cube 64 4 400 X) :
    V m c main_v16 = chunks 8 416 128 fun b r j => X b (j % 4) ((r + 392) % 400) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  dsimp only [Matrix.cons_val]
  after_reads_simp
  clean_types
  rw [h0]
  rw [transpose_cube_last, slice_cube, slice_cube]
  simp only [Nat.zero_add]
  erw [halo_eq fun b r j => X b j r]
  exact wide_eq (fun b r j => X b j ((r + 392) % 400)) _ _ _ _ _ _

theorem x1_eq (h1 : m (c, Proc.tc.devRef main_arg1) = cube 4 4 64 W1) (h3 : m (c, Proc.tc.devRef main_arg3) = cube 4 128 1 fun k t _ => A1 k t) :
    V m c main_v69 = spread 32 64 (wabOf W1 A1) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  rw [h1, h3]
  have e := nest64_eq A1
  unfold nest64 put half at e
  dsimp only at e
  erw [e]
  change shapeCast ⟨2, ![32, 64]⟩ (mulf (broadcastInDim _ _ _ (broadcastInDim _ _ _ (Host.dotGeneral (DotDims.plain 4 256 8) _
    (shapeCast ⟨2, ![4, 256]⟩ (transpose _ _ _ _) _) _))) _) _ = _
  rw [eye_eq, transpose_cube, shapeCast_cube_flat (show 256 = 4 * 64 from rfl) (by decide), dot_mat,
    kron_eye (show 32 = 8 * 4 from rfl) (show 64 = 8 * 8 from rfl)]
  rfl

theorem x2_eq (h2 : m (c, Proc.tc.devRef main_arg2) = mat 4 64 b1) (h3 : m (c, Proc.tc.devRef main_arg3) = cube 4 128 1 fun k t _ => A1 k t) :
    V m c main_v72 = row 64 (sbOf b1 A1) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  rw [h2, h3]
  have e := nest64_eq A1
  unfold nest64 put half at e
  dsimp only at e
  erw [e]
  change shapeCast ⟨2, ![1, 64]⟩ (mulf (broadcastInDim _ _ _ (broadcastInDim _ _ _ (Host.dotGeneral (DotDims.plain 1 256 8) _
    (shapeCast ⟨2, ![1, 256]⟩ _ _) _))) _) _ = _
  rw [ones_eq, shapeCast_mat_row (show 256 = 4 * 64 from rfl) (by decide), dot_mat,
    kron_ones (show 64 = 8 * 8 from rfl)]
  rfl

theorem x3_eq (h4 : m (c, Proc.tc.devRef main_arg4) = mat 4 1 fun k _ => c1 k) :
    V m c main_v77 = row 256 fun j => c1 (j % 4) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  rw [h4]
  change shapeCast ⟨2, ![1, 256]⟩ (mulf (broadcastInDim _ _ _ (broadcastInDim _ _ _ (shapeCast ⟨2, ![1, 32]⟩ _ _))) _) _ = _
  erw [offsets_eq]
  rw [ones_eq, kron_ones (show 256 = 8 * 32 from rfl)]

theorem x6_eq (h1 : m (c, Proc.tc.devRef main_arg1) = cube 4 4 64 W1) :
    V m c main_v103 = spread 128 2048 (block1 W1) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  rw [h1]
  have e := nestW_eq W1
  unfold nestW putM headW at e
  dsimp only at e
  erw [e]
  rw [eye_eq]
  exact kron_eye (show 128 = 8 * 16 from rfl) (show 2048 = 8 * 256 from rfl) _ _ _ _ _ _

theorem x7_eq (h2 : m (c, Proc.tc.devRef main_arg2) = mat 4 64 b1) :
    V m c main_v105 = row 2048 (flat 64 b1) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  rw [h2]
  change shapeCast ⟨2, ![1, 2048]⟩ (mulf (broadcastInDim _ _ _ (broadcastInDim _ _ _ (shapeCast ⟨2, ![1, 256]⟩ _ _))) _) _ = _
  rw [ones_eq, shapeCast_mat_row (show 256 = 4 * 64 from rfl) (by decide),
    kron_ones (show 2048 = 8 * 256 from rfl)]
  rfl

theorem x8_eq (h5 : m (c, Proc.tc.devRef main_arg5) = cube 4 256 12 W2) :
    V m c main_v111 = spread 2048 384 (block2 W2) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  rw [h5]
  rw [eye_eq]
  erw [block2_eq]
  exact kron_eye (show 2048 = 8 * 256 from rfl) (show 384 = 8 * 48 from rfl) _ _ _ _ _ _

theorem x9_eq (h6 : m (c, Proc.tc.devRef main_arg6) = mat 4 12 b2) :
    V m c main_v113 = row 384 (flat 12 b2) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  rw [h6]
  change shapeCast ⟨2, ![1, 384]⟩ (mulf (broadcastInDim _ _ _ (broadcastInDim _ _ _ (shapeCast ⟨2, ![1, 48]⟩ _ _))) _) _ = _
  rw [ones_eq, shapeCast_mat_row (show 48 = 4 * 12 from rfl) (by decide),
    kron_ones (show 384 = 8 * 48 from rfl)]
  rfl

theorem x10_eq (h7 : m (c, Proc.tc.devRef main_arg7) = cube 4 24 1 fun k t _ => A2 k t) :
    V m c main_v163 = spread 384 64 (attn 12 A2) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  rw [h7]
  have e := nest12_eq A2
  unfold nest12 put half at e
  dsimp only at e
  erw [e]
  rw [eye_eq]
  exact kron_eye (show 384 = 8 * 48 from rfl) (show 64 = 8 * 8 from rfl) _ _ _ _ _ _

theorem x11_eq (h8 : m (c, Proc.tc.devRef main_arg8) = mat 4 1 fun k _ => c2 k) :
    V m c main_v168 = row 256 fun j => c2 (j % 4) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  rw [h8]
  change shapeCast ⟨2, ![1, 256]⟩ (mulf (broadcastInDim _ _ _ (broadcastInDim _ _ _ (shapeCast ⟨2, ![1, 32]⟩ _ _))) _) _ = _
  erw [offsets_eq]
  rw [ones_eq, kron_ones (show 256 = 8 * 32 from rfl)]

theorem x4_eq :
    V m c main_v188 = spreads 256 128 (selDir 4) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  funext i
  have h0 : (i 1).val < 256 := (i 1).isLt
  have h1 : (i 2).val < 128 := (i 2).isLt
  have hd : (i 0).val < 8 := (i 0).isLt
  show (((IntOp.andi (IntOp.cmpi .eq (IntOp.divsi .host (BitVec.ofNat 32 (i 1).val) (BitVec.ofNat 32 8))
      (IntOp.addi (IntOp.muli (BitVec.ofNat 32 4) (BitVec.ofNat 32 (i 0).val)) (IntOp.divsi .host (IntOp.divsi .host (BitVec.ofNat 32 (i 2).val) (BitVec.ofNat 32 8)) (BitVec.ofNat 32 4))))
    (IntOp.cmpi .eq (IntOp.remsi .host (BitVec.ofNat 32 (i 1).val) (BitVec.ofNat 32 8))
      (IntOp.remsi .host (BitVec.ofNat 32 (i 2).val) (BitVec.ofNat 32 8)))).toNat : ℝ) : EReal) = _
  simp (disch := omega) only [word_div, word_rem, word_mul, word_add, agree]
  rfl

theorem x12_eq :
    V m c main_v208 = spreads 256 384 (selDir 12) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  funext i
  have h0 : (i 1).val < 256 := (i 1).isLt
  have h1 : (i 2).val < 384 := (i 2).isLt
  have hd : (i 0).val < 8 := (i 0).isLt
  show (((IntOp.andi (IntOp.cmpi .eq (IntOp.divsi .host (BitVec.ofNat 32 (i 1).val) (BitVec.ofNat 32 8))
      (IntOp.addi (IntOp.muli (BitVec.ofNat 32 4) (BitVec.ofNat 32 (i 0).val)) (IntOp.divsi .host (IntOp.divsi .host (BitVec.ofNat 32 (i 2).val) (BitVec.ofNat 32 8)) (BitVec.ofNat 32 12))))
    (IntOp.cmpi .eq (IntOp.remsi .host (BitVec.ofNat 32 (i 1).val) (BitVec.ofNat 32 8))
      (IntOp.remsi .host (BitVec.ofNat 32 (i 2).val) (BitVec.ofNat 32 8)))).toNat : ℝ) : EReal) = _
  simp (disch := omega) only [word_div, word_rem, word_mul, word_add, agree]
  rfl

theorem x5_eq :
    V m c main_cst = spread 32 128 (sel (· / 4)) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  exact table1_eq

theorem x13_eq :
    V m c main_cst_0 = spread 32 384 (sel (· / 12)) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  exact table2_eq

theorem x14_eq :
    V m c main_cst_1 = spread 32 256 (sel (· % 4)) := by
  unfold V V0
  simp only [List.flatten_cons, List.flatten_nil, List.cons_append, List.nil_append, List.append_nil, place_fn, halo_fn]
  after_reads_simp
  try simp -implicitDefEqProofs only [StableHlo.TRef.toBuf, StableHlo.TRef.ofBuf, cast_cast, cast_eq]
  clean_types
  exact table3_eq

end

end Cert.Gat

end
-- ==== Proof.Result.lean ====
/- The array that the grid leaves, and the result after the last reshapes. -/
module

public import proofs.«01_k».proof.Proof.Block
public import proofs.«01_k».proof.Proof.Operands

@[expose] public section

set_option maxHeartbeats 4000000
set_option maxRecDepth 16384

noncomputable section

namespace Cert.Gat

open Idealize.ShloMosaic Cert.KernelIdeal Cert.KernelIdeal.Gen
open Idealize.ShloMosaic.TcCoe
open Cert.KernelIdeal.Facts Cert.KernelIdeal.Facts₀
open scoped BigOperators

section

variable (m : (ℓ : Loc nD τ sig) → Buf (Elt Ideal) ℓ) (c : Dev nD)

/-- Point t reads block t of the features. -/
theorem index0 : ∀ t : Fin grid0.N, win0_0.index t = ![t.val, 0, 0] := by decide +kernel

/-- Point t writes block t of the result. -/
theorem index15 : ∀ t : Fin grid0.N, win0_15.index t = ![t.val, 0, 0] := by decide +kernel

/-- The block of features at a point: its eight batches. -/
theorem features_block (A : ℕ → ℕ → ℕ → ℝ) (h : V m c main_v16 = chunks 8 416 128 A) (t : Fin cfg0.N) :
    iblk m c 0 t = chunk 416 128 fun b => A (8 * t.val + b) := by
  funext y
  blk_simp [iblk, index0]
  erw [h]
  unfold chunks chunk
  blk_simp [index0]

/-! The other operands are read whole at every point. -/

theorem whole1 (t : Fin cfg0.N) : iblk m c 1 t = V m c main_v69 :=
  funext fun y => congrArg (V m c main_v69) (funext fun a => Fin.ext
    (win0_1.rect_emb_val_of_index_zero t a ((by decide +kernel : ∀ (t : Fin grid0.N) a, win0_1.index t a = 0) t a) y))

theorem whole2 (t : Fin cfg0.N) : iblk m c 2 t = V m c main_v72 :=
  funext fun y => congrArg (V m c main_v72) (funext fun a => Fin.ext
    (win0_2.rect_emb_val_of_index_zero t a ((by decide +kernel : ∀ (t : Fin grid0.N) a, win0_2.index t a = 0) t a) y))

theorem whole3 (t : Fin cfg0.N) : iblk m c 3 t = V m c main_v77 :=
  funext fun y => congrArg (V m c main_v77) (funext fun a => Fin.ext
    (win0_3.rect_emb_val_of_index_zero t a ((by decide +kernel : ∀ (t : Fin grid0.N) a, win0_3.index t a = 0) t a) y))

theorem whole4 (t : Fin cfg0.N) : iblk m c 4 t = V m c main_v188 :=
  funext fun y => congrArg (V m c main_v188) (funext fun a => Fin.ext
    (win0_4.rect_emb_val_of_index_zero t a ((by decide +kernel : ∀ (t : Fin grid0.N) a, win0_4.index t a = 0) t a) y))

theorem whole5 (t : Fin cfg0.N) : iblk m c 5 t = V m c main_cst :=
  funext fun y => congrArg (V m c main_cst) (funext fun a => Fin.ext
    (win0_5.rect_emb_val_of_index_zero t a ((by decide +kernel : ∀ (t : Fin grid0.N) a, win0_5.index t a = 0) t a) y))

theorem whole6 (t : Fin cfg0.N) : iblk m c 6 t = V m c main_v103 :=
  funext fun y => congrArg (V m c main_v103) (funext fun a => Fin.ext
    (win0_6.rect_emb_val_of_index_zero t a ((by decide +kernel : ∀ (t : Fin grid0.N) a, win0_6.index t a = 0) t a) y))

theorem whole7 (t : Fin cfg0.N) : iblk m c 7 t = V m c main_v105 :=
  funext fun y => congrArg (V m c main_v105) (funext fun a => Fin.ext
    (win0_7.rect_emb_val_of_index_zero t a ((by decide +kernel : ∀ (t : Fin grid0.N) a, win0_7.index t a = 0) t a) y))

theorem whole8 (t : Fin cfg0.N) : iblk m c 8 t = V m c main_v111 :=
  funext fun y => congrArg (V m c main_v111) (funext fun a => Fin.ext
    (win0_8.rect_emb_val_of_index_zero t a ((by decide +kernel : ∀ (t : Fin grid0.N) a, win0_8.index t a = 0) t a) y))

theorem whole9 (t : Fin cfg0.N) : iblk m c 9 t = V m c main_v113 :=
  funext fun y => congrArg (V m c main_v113) (funext fun a => Fin.ext
    (win0_9.rect_emb_val_of_index_zero t a ((by decide +kernel : ∀ (t : Fin grid0.N) a, win0_9.index t a = 0) t a) y))

theorem whole10 (t : Fin cfg0.N) : iblk m c 10 t = V m c main_v163 :=
  funext fun y => congrArg (V m c main_v163) (funext fun a => Fin.ext
    (win0_10.rect_emb_val_of_index_zero t a ((by decide +kernel : ∀ (t : Fin grid0.N) a, win0_10.index t a = 0) t a) y))

theorem whole11 (t : Fin cfg0.N) : iblk m c 11 t = V m c main_v168 :=
  funext fun y => congrArg (V m c main_v168) (funext fun a => Fin.ext
    (win0_11.rect_emb_val_of_index_zero t a ((by decide +kernel : ∀ (t : Fin grid0.N) a, win0_11.index t a = 0) t a) y))

theorem whole12 (t : Fin cfg0.N) : iblk m c 12 t = V m c main_v208 :=
  funext fun y => congrArg (V m c main_v208) (funext fun a => Fin.ext
    (win0_12.rect_emb_val_of_index_zero t a ((by decide +kernel : ∀ (t : Fin grid0.N) a, win0_12.index t a = 0) t a) y))

theorem whole13 (t : Fin cfg0.N) : iblk m c 13 t = V m c main_cst_0 :=
  funext fun y => congrArg (V m c main_cst_0) (funext fun a => Fin.ext
    (win0_13.rect_emb_val_of_index_zero t a ((by decide +kernel : ∀ (t : Fin grid0.N) a, win0_13.index t a = 0) t a) y))

theorem whole14 (t : Fin cfg0.N) : iblk m c 14 t = V m c main_cst_1 :=
  funext fun y => congrArg (V m c main_cst_1) (funext fun a => Fin.ext
    (win0_14.rect_emb_val_of_index_zero t a ((by decide +kernel : ∀ (t : Fin grid0.N) a, win0_14.index t a = 0) t a) y))

variable (X W1 W2 : ℕ → ℕ → ℕ → ℝ) (b1 A1 b2 A2 : ℕ → ℕ → ℝ) (c1 c2 : ℕ → ℝ)

/-- The result of one batch: two layers of attention, and the mean of the four heads. -/
def net (b : ℕ) : ℕ → ℕ → ℝ :=
  heads (attend2 (feat2 (fun r j => X b (j % 4) ((r + 392) % 400)) (wabOf W1 A1) (block1 W1) (block2 W2) (sbOf b1 A1)
    (fun j => c1 (j % 4)) (flat 64 b1) (flat 12 b2)) (attn 12 A2) fun j => c2 (j % 4))

/-- The argument arrays hold these reals. -/
structure Given : Prop where
  h0 : m (c, Proc.tc.devRef main_arg0) = cube 64 4 400 X
  h1 : m (c, Proc.tc.devRef main_arg1) = cube 4 4 64 W1
  h2 : m (c, Proc.tc.devRef main_arg2) = mat 4 64 b1
  h3 : m (c, Proc.tc.devRef main_arg3) = cube 4 128 1 fun k t _ => A1 k t
  h4 : m (c, Proc.tc.devRef main_arg4) = mat 4 1 fun k _ => c1 k
  h5 : m (c, Proc.tc.devRef main_arg5) = cube 4 256 12 W2
  h6 : m (c, Proc.tc.devRef main_arg6) = mat 4 12 b2
  h7 : m (c, Proc.tc.devRef main_arg7) = cube 4 24 1 fun k t _ => A2 k t
  h8 : m (c, Proc.tc.devRef main_arg8) = mat 4 1 fun k _ => c2 k

variable {m c X W1 W2 b1 A1 b2 A2 c1 c2}

/-- What a point of the grid leaves in its block of the result. -/
theorem after_eq (h : Given m c X W1 W2 b1 A1 b2 A2 c1 c2) (t : Fin cfg0.N) :
    (dats m 0 c).after 15 t = chunk 400 96 fun b => net X W1 W2 b1 A1 b2 A2 c1 c2 (8 * t.val + b) := by
  rw [after0_15, features_block m c _ (x0_eq m c X h.h0), whole1, whole2, whole3, whole4, whole5, whole6, whole7, whole8,
    whole9, whole10, whole11, whole12, whole13, whole14, x1_eq m c W1 A1 h.h1 h.h3, x2_eq m c b1 A1 h.h2 h.h3,
    x3_eq m c c1 h.h4, x4_eq, x5_eq, x6_eq m c W1 h.h1, x7_eq m c b1 h.h2, x8_eq m c W2 h.h5, x9_eq m c b2 h.h6,
    x10_eq m c A2 h.h7, x11_eq m c c2 h.h8, x12_eq, x13_eq, x14_eq]
  exact out_eq _ _ _ _ _ _ _ _ _ _

/-- The array that the grid leaves: the results of all the batches, eight of them in every block. -/
theorem arr_eq (h : Given m c X W1 W2 b1 A1 b2 A2 c1 c2) :
    (dats m 0 c).arrAt 15 cfg0.N = chunks 8 400 96 (net X W1 W2 b1 A1 b2 A2 c1 c2) := by
  refine (dats m 0 c).arrAt_eq_of_covers 15 _ (by decide +kernel) fun t hf y => ?_
  blk_simp
  rw [after_eq h]
  unfold chunks chunk
  blk_simp [index15]

end

end Cert.Gat

end
-- ==== Proof.Suffix.lean ====
/- The result: what the last reshapes make of the array that the grid leaves. -/
module

public import proofs.«01_k».proof.Proof.Result

@[expose] public section

set_option maxHeartbeats 4000000
set_option maxRecDepth 16384

noncomputable section

namespace Cert.Gat

open Idealize.ShloMosaic Idealize.SL.Sem Cert.KernelIdeal Cert.KernelIdeal.Gen
open Idealize.ShloMosaic.TcCoe
open Cert.KernelIdeal.Facts Cert.KernelIdeal.Facts₀
open scoped BigOperators

section

variable {m : (ℓ : Loc nD τ sig) → Buf (Elt Ideal) ℓ} {c : Dev nD}
variable {X W1 W2 : ℕ → ℕ → ℕ → ℝ} {b1 A1 b2 A2 : ℕ → ℕ → ℝ} {c1 c2 : ℕ → ℝ}

/-- The batches taken apart again. -/
theorem unwide_eq (f : ℕ → ℕ → ℕ → ℝ) (g1 g2 g3) :
    shapeCast ⟨3, ![64, 12, 400]⟩ (transpose ⟨4, ![8, 8, 12, 400]⟩ [0, 3, 2, 1] (shapeCast ⟨4, ![8, 400, 12, 8]⟩ (chunks 8 400 96 f) g1) g2) g3
      = cube 64 12 400 fun b o n => f b n o := by
  funext j
  obtain ⟨b, o, n, rfl⟩ : ∃ b o n, j = ix3 b o n := ⟨j 0, j 1, j 2, by funext a; fin_cases a <;> rfl⟩
  have hb : b.val < 64 := b.isLt
  have ho : o.val < 12 := o.isLt
  have hn : n.val < 400 := n.isLt
  rw [shapeCast_apply (k := ix4 ⟨b.val / 8, by omega⟩ ⟨b.val % 8, by omega⟩ o n)
      (hk := by rw [Shape.rowMajor_val_four, Shape.rowMajor_val_three]; show ((b.val / 8 * 8 + b.val % 8) * 12 + o.val) * 400 + n.val = (b.val * 12 + o.val) * 400 + n.val; omega),
    transpose_apply (k := ix4 ⟨b.val / 8, by omega⟩ n o ⟨b.val % 8, by omega⟩) (hk := fun a => by fin_cases a <;> rfl),
    shapeCast_apply (k := ix3 ⟨b.val / 8, by omega⟩ n ⟨8 * o.val + b.val % 8, by omega⟩)
      (hk := by rw [Shape.rowMajor_val_four, Shape.rowMajor_val_three]; show (b.val / 8 * 400 + n.val) * 96 + (8 * o.val + b.val % 8) = ((b.val / 8 * 400 + n.val) * 12 + o.val) * 8 + b.val % 8; omega)]
  show ((f (8 * (b.val / 8) + (8 * o.val + b.val % 8) % 8) n.val ((8 * o.val + b.val % 8) / 8) : ℝ) : EReal) = ((f b.val n.val o.val : ℝ) : EReal)
  rw [show 8 * (b.val / 8) + (8 * o.val + b.val % 8) % 8 = b.val by omega, show (8 * o.val + b.val % 8) / 8 = o.val by omega]

/-- The result that the whole program leaves. -/
theorem tail_eq (h : Given m c X W1 W2 b1 A1 b2 A2 c1 c2) :
    Pipeline.afterTail₀ cfgs (dats m) 0 (V0 m) [hostOps1] c main_v212 = cube 64 12 400 fun b o n => net X W1 W2 b1 A1 b2 A2 c1 c2 b n o := by
  unfold Pipeline.afterTail₀
  simp only [List.flatten_cons, List.flatten_nil, List.append_nil]
  after_reads_simp
  have e := (Pipeline.withArrays_arr (cfgs 0).spec (by decide) c (V0 m c) (fun w => (dats m 0 c).arrAt w (cfgs 0).N) 15).trans (arr_eq h)
  clean_types
  erw [e]
  exact unwide_eq _ _ _ _

end

end Cert.Gat

end
-- ==== Proof.Plain.lean ====
/- The attention layer as the reference writes it, over the reals, and the steps of its operations at an index. -/
module

public import proofs.«01_k».proof.Proof.Arrays
public import Idealize.ShloMosaic.Lib.Claim
public import Idealize.ShloMosaic.Lib.ValueIdx

@[expose] public section

set_option maxHeartbeats 4000000

noncomputable section

namespace Cert.Gat

open Idealize.ShloMosaic
open scoped BigOperators

/-- An array of reals of rank five. -/
def penta (A B C D E : ℕ) (f : ℕ → ℕ → ℕ → ℕ → ℕ → ℝ) : FVec Ideal ⟨5, ![A, B, C, D, E]⟩ .f32 :=
  fun i => ((f (i 0).val (i 1).val (i 2).val (i 3).val (i 4).val : ℝ) : EReal)

/-- The neighbour of link `n` in direction `d`. -/
def ring (n d : ℕ) : ℕ := if d < 4 then (n + d + 1) % 400 else (n + 403 - d) % 400

theorem ring_lt (n d : ℕ) : ring n d < 400 := by
  unfold ring; split <;> exact Nat.mod_lt _ (by decide)

/-- The linear layer of one head. -/
def lin (I : ℕ) (W : ℕ → ℕ → ℕ → ℝ) (b : ℕ → ℕ → ℝ) (x : ℕ → ℕ → ℕ → ℝ) (a k n o : ℕ) : ℝ :=
  ∑ f ∈ Finset.range I, W k f o * x a n f + b k o

/-- The attention score of a link's neighbour, before the leaky unit. -/
def raw (O : ℕ) (A : ℕ → ℕ → ℝ) (c : ℕ → ℝ) (h : ℕ → ℕ → ℕ → ℕ → ℝ) (a k n d : ℕ) : ℝ :=
  ∑ i ∈ Finset.range O, A k i * h a k n i + ∑ i ∈ Finset.range O, A k (O + i) * h a k (ring n d) i + c k

/-- The largest of eight scores. -/
def peak (e : ℕ → ℝ) : ℝ := (Finset.range 8).sup' ⟨0, by decide⟩ e

/-- The weights before they are divided by their sum. -/
def expo (e : ℕ → ℕ → ℕ → ℕ → ℝ) (a k n d : ℕ) : ℝ := Real.exp (leaky (e a k n d) - peak fun d => leaky (e a k n d))

/-- The neighbours' features summed under the weights. -/
def blend (p h : ℕ → ℕ → ℕ → ℕ → ℝ) (a k n o : ℕ) : ℝ :=
  ∑ d ∈ Finset.range 8, h a k (ring n d) o * (p a k n d / ∑ d ∈ Finset.range 8, p a k n d)

/-- One layer of attention. -/
def layer (O : ℕ) (A : ℕ → ℕ → ℝ) (c : ℕ → ℝ) (h : ℕ → ℕ → ℕ → ℕ → ℝ) : ℕ → ℕ → ℕ → ℕ → ℝ :=
  blend (expo (raw O A c h)) h

/-! ## The steps at an index -/

theorem sum_mul_coe (K : ℕ) (u v : ℕ → ℝ) :
    ∑ x : Fin K, ((u x.val : ℝ) : EReal) * ((v x.val : ℝ) : EReal) = ((∑ i ∈ Finset.range K, u i * v i : ℝ) : EReal) := by
  rw [Finset.sum_range fun i => u i * v i, coe_sum]
  exact Finset.sum_congr rfl fun x _ => (EReal.coe_mul _ _).symm

theorem sum_coe (K : ℕ) (u : ℕ → ℝ) : ∑ x : Fin K, ((u x.val : ℝ) : EReal) = ((∑ i ∈ Finset.range K, u i : ℝ) : EReal) := by
  rw [Finset.sum_range, coe_sum]

theorem lin_at (K : ℕ) (u v : ℕ → ℝ) (c : ℝ) :
    ∑ x : Fin K, ((u x.val : ℝ) : EReal) * ((v x.val : ℝ) : EReal) + (c : EReal)
      = ((∑ i ∈ Finset.range K, u i * v i + c : ℝ) : EReal) := by
  rw [sum_mul_coe, EReal.coe_add]

theorem raw_at (K : ℕ) (u v u' v' : ℕ → ℝ) (c : ℝ) :
    ∑ x : Fin K, ((u x.val : ℝ) : EReal) * ((v x.val : ℝ) : EReal)
        + ∑ x : Fin K, ((u' x.val : ℝ) : EReal) * ((v' x.val : ℝ) : EReal) + (c : EReal)
      = ((∑ i ∈ Finset.range K, u i * v i + ∑ i ∈ Finset.range K, u' i * v' i + c : ℝ) : EReal) := by
  rw [sum_mul_coe, sum_mul_coe, EReal.coe_add, EReal.coe_add]

theorem leaky_at (x : ℝ) :
    (if (0 : EReal) ≤ (x : EReal) then (x : EReal) else Ideal.ofBits .f32 0x3E4CCCCD#32 * (x : EReal)) = ((leaky x : ℝ) : EReal) := by
  rw [ofBits_slope, ← EReal.coe_zero, ← EReal.coe_mul]
  unfold leaky
  by_cases hx : (0 : ℝ) ≤ x
  · simp [hx]
  · simp [hx]

theorem ofBits_bot : Ideal.ofBits .f32 0xFF800000#32 = ⊥ := by
  simp [Ideal.ofBits, Ideal.ieee]

theorem fold_max (e : ℕ → ℝ) :
    Finset.fold max (⊥ : EReal) (fun x : Fin 8 => ((e x.val : ℝ) : EReal)) Finset.univ = ((peak e : ℝ) : EReal) := by
  have h8 : Finset.fold max (⊥ : EReal) (fun x : Fin 8 => ((e x.val : ℝ) : EReal)) Finset.univ
      = Finset.univ.sup fun x : Fin 8 => ((e x.val : ℝ) : EReal) := rfl
  rw [h8]
  refine le_antisymm (Finset.sup_le fun x _ => ?_) ?_
  · exact EReal.coe_le_coe_iff.2 (Finset.le_sup' e (Finset.mem_range.2 x.isLt))
  · obtain ⟨i, hi, he⟩ := Finset.exists_mem_eq_sup' (s := Finset.range 8) ⟨0, by decide⟩ e
    unfold peak
    rw [he]
    exact Finset.le_sup (f := fun x : Fin 8 => ((e x.val : ℝ) : EReal)) (Finset.mem_univ (⟨i, Finset.mem_range.1 hi⟩ : Fin 8))

theorem expo_at (e : ℕ → ℝ) (x : ℝ) :
    Ideal.exp ((x : EReal) - max (Ideal.ofBits .f32 0xFF800000#32)
        (Finset.fold max (Ideal.ofBits .f32 0xFF800000#32) (fun x : Fin 8 => ((e x.val : ℝ) : EReal)) Finset.univ))
      = ((Real.exp (x - peak e) : ℝ) : EReal) := by
  rw [ofBits_bot, fold_max, max_eq_right bot_le, ← EReal.coe_sub]
  rfl

theorem blend_at (f p : ℕ → ℝ) (hp : ∀ d, 0 < p d) :
    ∑ x : Fin 8, ((f x.val : ℝ) : EReal) * Ideal.div ((p x.val : ℝ) : EReal) (∑ x : Fin 8, ((p x.val : ℝ) : EReal))
      = ((∑ d ∈ Finset.range 8, f d * (p d / ∑ d ∈ Finset.range 8, p d) : ℝ) : EReal) := by
  have hne : ∑ d ∈ Finset.range 8, p d ≠ 0 := (Finset.sum_pos (fun d _ => hp d) ⟨0, by decide⟩).ne'
  rw [sum_coe 8 p, ← sum_mul_coe 8 f fun d => p d / ∑ d ∈ Finset.range 8, p d]
  refine Finset.sum_congr rfl fun x _ => congrArg _ ?_
  rw [Ideal.div_coe hne, ← EReal.coe_mul, mul_one_div]

/-! ## The gather of the neighbours' features -/

/-- How the neighbours' features are picked along the axis of the links. -/
def linkDims (O : ℕ) (wf : GatherDims.WF ⟨4, ![64, 4, 400, O]⟩ ⟨3, ![400, 8, 1]⟩ ⟨5, ![64, 4, 400, 8, O]⟩ [0, 1, 4] [2] [] [2] [] 2 ![64, 4, 1, O]) :
    GatherDims ⟨4, ![64, 4, 400, O]⟩ ⟨3, ![400, 8, 1]⟩ ⟨5, ![64, 4, 400, 8, O]⟩ where
  offsetDims := [0, 1, 4]
  collapsedSliceDims := [2]
  operandBatchingDims := []
  startIndicesBatchingDims := []
  startIndexMap := [2]
  indexVectorDim := 2
  sliceSizes := ![64, 4, 1, O]
  wf := wf

theorem word_nat (n : ℕ) (h : n < 400) : (BitVec.ofNat 32 n).toInt.toNat = n := by
  have e : (BitVec.ofNat 32 n).toInt = n := by
    rw [BitVec.toInt_eq_toNat_cond, BitVec.toNat_ofNat, Nat.mod_eq_of_lt (by omega), if_pos (by omega)]
  rw [e]; rfl

/-- The axis of the links at its place. -/
theorem gather_links (O : ℕ) (wf) (f : ℕ → ℕ → ℕ → ℕ → ℝ) (idx : IVec ⟨3, ![400, 8, 1]⟩ 32)
    (hidx : ∀ i, idx i = BitVec.ofNat 32 (ring (i 0).val (i 1).val)) :
    Host.gather (linkDims O wf) (hyper 64 4 400 O f) idx = penta 64 4 400 8 O fun b k n d o => f b k (ring n d) o := by
  funext y
  have hs : ∀ a : Fin 4, a ≠ 2 → (linkDims O wf).start y idx a = 0 := fun a ha => by
    unfold GatherDims.start
    exact dif_neg (fun h => ha (List.mem_singleton.mp h))
  have h2 : (linkDims O wf).start y idx 2 = ring (y 2).val (y 3).val := by
    unfold GatherDims.start
    rw [dif_pos (show (2 : Fin 4) ∈ (linkDims O wf).startIndexMap from List.mem_singleton.mpr rfl), hidx]
    refine Eq.trans (congrArg (fun z => min z _) (word_nat _ (ring_lt _ _))) ?_
    have := ring_lt (y 2).val (y 3).val
    exact Nat.min_eq_left (by show ring (y 2).val (y 3).val ≤ 399; omega)
  show ((f _ _ _ _ : ℝ) : EReal) = _
  refine congrArg (fun r : ℝ => (r : EReal)) ?_
  have off : ∀ a : Fin 4, a ≠ 2 → ((linkDims O wf).operandIdx y idx a).val = (linkDims O wf).offCoord y a := fun a ha => by
    show (linkDims O wf).start y idx a + (linkDims O wf).batchCoord y a + (linkDims O wf).offCoord y a = _
    rw [hs a ha, GatherDims.batchCoord_eq_zero _ _ _ (fun h => by simp [linkDims] at h), Nat.zero_add]
  have e0 : ((linkDims O wf).operandIdx y idx 0).val = (y 0).val := (off 0 (by decide)).trans rfl
  have e1 : ((linkDims O wf).operandIdx y idx 1).val = (y 1).val := (off 1 (by decide)).trans rfl
  have e3 : ((linkDims O wf).operandIdx y idx 3).val = (y 4).val := (off 3 (by decide)).trans rfl
  have e2 : ((linkDims O wf).operandIdx y idx 2).val = ring (y 2).val (y 3).val := by
    show (linkDims O wf).start y idx 2 + (linkDims O wf).batchCoord y 2 + (linkDims O wf).offCoord y 2 = _
    rw [h2, GatherDims.batchCoord_eq_zero _ _ _ (fun h => by simp [linkDims] at h),
      GatherDims.offCoord_eq_zero _ _ _ (fun h => ((GatherDims.mem_sKept _ _).mp h).1 (List.mem_singleton.mpr rfl)),
      Nat.add_zero]
  rw [e0, e1, e2, e3]

end Cert.Gat

end
-- ==== Proof.Reference.lean ====
/- The reference's operations on arrays of reals, group by group. -/
module

public import proofs.«01_k».proof.Proof.Plain
public import proofs.«01_k».proof.Proof.Gen.ReferenceIdeal
public import proofs.«01_k».proof.Proof.Gen.ReferenceIdeal.Run
public import Idealize.ShloMosaic.Lib.Claim
public import Idealize.ShloMosaic.Lib.Tactic.CleanTypes

@[expose] public section

set_option maxHeartbeats 4000000
set_option maxRecDepth 16384

noncomputable section

namespace Cert.Gat

open Idealize.ShloMosaic Cert.ReferenceIdeal Cert.ReferenceIdeal.Gen Cert.ReferenceIdeal.Value
open scoped BigOperators

/-! ## Steps that both layers share -/

/-- The table of neighbours. -/
def table : IVec ⟨2, ![400, 8]⟩ 32 := fun i => BitVec.ofNat 32 (ring (i 0).val (i 1).val)

/-- The places that the gather reads: a place below zero would count from the end, and there is none. -/
theorem places_eq (i : S400x8x1.Idx) :
    broadcastInDim S400x8x1 ![0, 1] bcast_S400x8_S400x8x1_0_1 (select (cmpi .slt table (broadcastInDim S400x8 ![] bcast_S_S400x8 (constantI S_ 32 0#32)))
      (addi table (broadcastInDim S400x8 ![] bcast_S_S400x8 (constantI S_ 32 400#32))) table) i
    = BitVec.ofNat 32 (ring (i 0).val (i 1).val) := by
  pointwise
  have hlt : IntOp.cmpi .slt (table (ix2 (i 0) (i 1))) 0#32 ≠ 1#1 := fun h => by
    have h := IntOp.cmpi_slt.1 h
    have hr := ring_lt (i 0).val (i 1).val
    unfold table at h
    rw [BitVec.toInt_eq_toNat_cond, BitVec.toNat_ofNat, Nat.mod_eq_of_lt (by show ring (i 0).val (i 1).val < 2 ^ 32; omega),
      if_pos (by show 2 * ring (i 0).val (i 1).val < 2 ^ 32; omega)] at h
    exact absurd h (by show ¬ ((ring (i 0).val (i 1).val : ℤ) < 0); omega)
  exact if_neg hlt

theorem leaky_eq (e : ℕ → ℕ → ℕ → ℕ → ℝ) :
    select (cmpf .oge (hyper 64 4 400 8 e) (broadcastInDim S64x4x400x8 ![] bcast_S_S64x4x400x8 (constant S_ .f32 0x00000000#32)))
      (hyper 64 4 400 8 e) (mulf (broadcastInDim S64x4x400x8 ![] bcast_S_S64x4x400x8 (id (constant S_ .f32 0x3E4CCCCD#32))) (hyper 64 4 400 8 e))
    = hyper 64 4 400 8 fun b k n d => leaky (e b k n d) := by
  funext j
  pointwise
  exact leaky_at _

theorem expo_eq (e : ℕ → ℕ → ℕ → ℕ → ℝ) :
    Host.exp (subf (hyper 64 4 400 8 fun b k n d => leaky (e b k n d)) (broadcastInDim S64x4x400x8 ![0, 1, 2, 3] bcast_S64x4x400x1_S64x4x400x8_0_1_2_3
      (broadcastInDim S64x4x400x1 ![0, 1, 2] bcast_S64x4x400_S64x4x400x1_0_1_2 (maximumf (broadcastInDim S64x4x400 ![] bcast_S_S64x4x400
        (constant S_ .f32 0xFF800000#32)) (Host.reduce FloatOps.maximumf (hyper 64 4 400 8 fun b k n d => leaky (e b k n d))
          (constant S_ .f32 0xFF800000#32) reducesTo_S64x4x400x8_S64x4x400_d3 h_S_)))))
    = hyper 64 4 400 8 (expo e) := by
  funext j
  pointwise
  exact expo_at (fun d => leaky (e (j 0).val (j 1).val (j 2).val d)) _

/-! ## The first layer -/

theorem lin1_eq (W x : ℕ → ℕ → ℕ → ℝ) (b : ℕ → ℕ → ℝ) :
    addf (transpose S64x4x400x64 [2, 0, 3, 1] (Host.dotGeneral (φ₁ := .f32) (φ₂ := .f32) dot_S4x4x64_S64x400x4_S4x64x64x400_1_2_02_01_n_n none (cube 4 4 64 W)
        (cube 64 400 4 x)) transposes_S4x64x64x400_S64x4x400x64_2_0_3_1)
      (broadcastInDim S64x4x400x64 ![0, 1, 2, 3] bcast_S1x4x1x64_S64x4x400x64_0_1_2_3 (broadcastInDim S1x4x1x64 ![1, 3] bcast_S4x64_S1x4x1x64_1_3 (mat 4 64 b)))
    = hyper 64 4 400 64 (lin 4 W b fun a n f => x a n f) := by
  funext j
  pointwise
  exact lin_at 4 (fun f => W (j 1).val f (j 3).val) (fun f => x (j 0).val (j 2).val f) _

theorem raw1_eq (A : ℕ → ℕ → ℝ) (c : ℕ → ℝ) (h : ℕ → ℕ → ℕ → ℕ → ℝ) :
    shapeCast S64x4x400x8 (addf (transpose S64x4x400x8x1 [2, 0, 3, 4, 1] (Host.dotGeneral (φ₁ := .f32) (φ₂ := .f32)
      dot_S4x128x1_S64x4x400x8x128_S4x1x64x400x8_1_4_2_023_0_1 none (cube 4 128 1 fun k t _ => A k t) (concatenate S64x4x400x8x128 4
        [⟨S64x4x400x8x64, (broadcastInDim S64x4x400x8x64 ![0, 1, 2, 3, 4] bcast_S64x4x400x1x64_S64x4x400x8x64_0_1_2_3_4
          (broadcastInDim S64x4x400x1x64 ![0, 1, 2, 4] bcast_S64x4x400x64_S64x4x400x1x64_0_1_2_4 (hyper 64 4 400 64 h)))⟩,
         ⟨S64x4x400x8x64, (penta 64 4 400 8 64 fun b k n d o => h b k (ring n d) o)⟩] concatenates_S64x4x400x8x64_S64x4x400x8x64_S64x4x400x8x128_d4))
      transposes_S4x1x64x400x8_S64x4x400x8x1_2_0_3_4_1) (broadcastInDim S64x4x400x8x1 ![0, 1, 2, 3, 4] bcast_S1x4x1x1x1_S64x4x400x8x1_0_1_2_3_4
        (broadcastInDim S1x4x1x1x1 ![1, 4] bcast_S4x1_S1x4x1x1x1_1_4 (mat 4 1 fun k _ => c k)))) shapeCasts_S64x4x400x8x1_S64x4x400x8
     = hyper 64 4 400 8 (raw 64 A c h) := by
  funext j
  pointwise
  exact raw_at 64 (fun i => A (j 1).val i) (fun i => h (j 0).val (j 1).val (j 2).val i) (fun i => A (j 1).val (64 + i))
    (fun i => h (j 0).val (j 1).val (ring (j 2).val (j 3).val) i) _

theorem blend1_eq (p h : ℕ → ℕ → ℕ → ℕ → ℝ) (hp : ∀ b k n d, 0 < p b k n d) :
    Host.reduceAdd (mulf (penta 64 4 400 8 64 fun b k n d o => h b k (ring n d) o) (broadcastInDim S64x4x400x8x64 ![0, 1, 2, 3, 4]
      bcast_S64x4x400x8x1_S64x4x400x8x64_0_1_2_3_4 (broadcastInDim S64x4x400x8x1 ![0, 1, 2, 3] bcast_S64x4x400x8_S64x4x400x8x1_0_1_2_3
        (Host.divf (hyper 64 4 400 8 p) (broadcastInDim S64x4x400x8 ![0, 1, 2, 3] bcast_S64x4x400x1_S64x4x400x8_0_1_2_3 (broadcastInDim S64x4x400x1 ![0, 1, 2]
          bcast_S64x4x400_S64x4x400x1_0_1_2 (Host.reduceAdd (hyper 64 4 400 8 p) (constant S_ .f32 0x00000000#32) reducesTo_S64x4x400x8_S64x4x400_d3 h_S_)))))))
      (constant S_ .f32 0x00000000#32) reducesTo_S64x4x400x8x64_S64x4x400x64_d3 h_S_
    = hyper 64 4 400 64 (blend p h) := by
  funext j
  pointwise
  exact blend_at (fun d => h (j 0).val (j 1).val (ring (j 2).val d) (j 3).val) (fun d => p (j 0).val (j 1).val (j 2).val d) fun d => hp _ _ _ d

/-- The heads' features of a link, side by side. -/
theorem flat_eq (f : ℕ → ℕ → ℕ → ℕ → ℝ) :
    transpose S64x400x256 [0, 2, 1] (transpose S64x256x400 [0, 2, 1] (shapeCast S64x400x256 (transpose S64x400x64x4 [0, 2, 3, 1] (hyper 64 4 400 64 f)
      transposes_S64x4x400x64_S64x400x64x4_0_2_3_1) shapeCasts_S64x400x64x4_S64x400x256) transposes_S64x400x256_S64x256x400_0_2_1)
      transposes_S64x256x400_S64x400x256_0_2_1
    = cube 64 400 256 fun b n q => f b (q % 4) n (q / 4) := by
  funext j
  pointwise
  rfl

/-! ## The second layer -/

theorem lin2_eq (W x : ℕ → ℕ → ℕ → ℝ) (b : ℕ → ℕ → ℝ) :
    addf (transpose S64x4x400x12 [2, 0, 3, 1] (Host.dotGeneral (φ₁ := .f32) (φ₂ := .f32) dot_S4x256x12_S64x400x256_S4x12x64x400_1_2_02_01_n_n none (cube 4 256 12 W)
        (cube 64 400 256 x)) transposes_S4x12x64x400_S64x4x400x12_2_0_3_1)
      (broadcastInDim S64x4x400x12 ![0, 1, 2, 3] bcast_S1x4x1x12_S64x4x400x12_0_1_2_3 (broadcastInDim S1x4x1x12 ![1, 3] bcast_S4x12_S1x4x1x12_1_3 (mat 4 12 b)))
    = hyper 64 4 400 12 (lin 256 W b fun a n f => x a n f) := by
  funext j
  pointwise
  exact lin_at 256 (fun f => W (j 1).val f (j 3).val) (fun f => x (j 0).val (j 2).val f) _

theorem raw2_eq (A : ℕ → ℕ → ℝ) (c : ℕ → ℝ) (h : ℕ → ℕ → ℕ → ℕ → ℝ) :
    shapeCast S64x4x400x8 (addf (transpose S64x4x400x8x1 [2, 0, 3, 4, 1] (Host.dotGeneral (φ₁ := .f32) (φ₂ := .f32)
      dot_S4x24x1_S64x4x400x8x24_S4x1x64x400x8_1_4_2_023_0_1 none (cube 4 24 1 fun k t _ => A k t) (concatenate S64x4x400x8x24 4
        [⟨S64x4x400x8x12, (broadcastInDim S64x4x400x8x12 ![0, 1, 2, 3, 4] bcast_S64x4x400x1x12_S64x4x400x8x12_0_1_2_3_4
          (broadcastInDim S64x4x400x1x12 ![0, 1, 2, 4] bcast_S64x4x400x12_S64x4x400x1x12_0_1_2_4 (hyper 64 4 400 12 h)))⟩,
         ⟨S64x4x400x8x12, (penta 64 4 400 8 12 fun b k n d o => h b k (ring n d) o)⟩] concatenates_S64x4x400x8x12_S64x4x400x8x12_S64x4x400x8x24_d4))
      transposes_S4x1x64x400x8_S64x4x400x8x1_2_0_3_4_1) (broadcastInDim S64x4x400x8x1 ![0, 1, 2, 3, 4] bcast_S1x4x1x1x1_S64x4x400x8x1_0_1_2_3_4
        (broadcastInDim S1x4x1x1x1 ![1, 4] bcast_S4x1_S1x4x1x1x1_1_4 (mat 4 1 fun k _ => c k)))) shapeCasts_S64x4x400x8x1_S64x4x400x8
     = hyper 64 4 400 8 (raw 12 A c h) := by
  funext j
  pointwise
  exact raw_at 12 (fun i => A (j 1).val i) (fun i => h (j 0).val (j 1).val (j 2).val i) (fun i => A (j 1).val (12 + i))
    (fun i => h (j 0).val (j 1).val (ring (j 2).val (j 3).val) i) _

/-- The second layer's weighted sum, the sum over the heads, and the last reshapes. -/
theorem last_eq (p h : ℕ → ℕ → ℕ → ℕ → ℝ) (hp : ∀ b k n d, 0 < p b k n d) :
    shapeCast S64x12x400 (transpose S64x12x400x1 [0, 3, 1, 2] (shapeCast S64x400x1x12 (Host.reduceAdd (transpose S64x400x12x4 [0, 2, 3, 1]
      (Host.reduceAdd (mulf (penta 64 4 400 8 12 fun b k n d o => h b k (ring n d) o) (broadcastInDim S64x4x400x8x12 ![0, 1, 2, 3, 4]
      bcast_S64x4x400x8x1_S64x4x400x8x12_0_1_2_3_4 (broadcastInDim S64x4x400x8x1 ![0, 1, 2, 3] bcast_S64x4x400x8_S64x4x400x8x1_0_1_2_3
        (Host.divf (hyper 64 4 400 8 p) (broadcastInDim S64x4x400x8 ![0, 1, 2, 3] bcast_S64x4x400x1_S64x4x400x8_0_1_2_3 (broadcastInDim S64x4x400x1 ![0, 1, 2]
          bcast_S64x4x400_S64x4x400x1_0_1_2 (Host.reduceAdd (hyper 64 4 400 8 p) (constant S_ .f32 0x00000000#32) reducesTo_S64x4x400x8_S64x4x400_d3 h_S_)))))))
      (constant S_ .f32 0x00000000#32) reducesTo_S64x4x400x8x12_S64x4x400x12_d3 h_S_) transposes_S64x4x400x12_S64x400x12x4_0_2_3_1)
      (constant S_ .f32 0x00000000#32) reducesTo_S64x400x12x4_S64x400x12_d3 h_S_) shapeCasts_S64x400x12_S64x400x1x12)
      transposes_S64x400x1x12_S64x12x400x1_0_3_1_2) shapeCasts_S64x12x400x1_S64x12x400
    = cube 64 12 400 fun b o n => ∑ k ∈ Finset.range 4, blend p h b k n o := by
  funext j
  pointwise
  refine Eq.trans (Finset.sum_congr rfl fun k _ => ?_) (sum_coe 4 fun k => blend p h (j 0).val k (j 2).val (j 1).val)
  exact blend_at (fun d => h (j 0).val k.val (ring (j 2).val d) (j 1).val) (fun d => p (j 0).val k.val (j 2).val d) fun d => hp _ _ _ d

end Cert.Gat

end
-- ==== Proof.Values.lean ====
/- The reference's result: two layers of attention over the reals. -/
module

public import proofs.«01_k».proof.Proof.Reference
public import proofs.«01_k».proof.Proof.Gen.ReferenceIdeal
public import proofs.«01_k».proof.Proof.Gen.ReferenceIdeal.Run
public import Idealize.ShloMosaic.Lib.Claim
public import Idealize.ShloMosaic.Lib.Tactic.CleanTypes

@[expose] public section

set_option maxHeartbeats 4000000
set_option maxRecDepth 16384

noncomputable section

namespace Cert.Gat

open Idealize.ShloMosaic Cert.ReferenceIdeal Cert.ReferenceIdeal.Gen Cert.ReferenceIdeal.Value
open scoped BigOperators

/-! ## The reference's values -/

section

variable (V : Valuation τ sig (Elt Ideal))
variable (X W1 W2 : ℕ → ℕ → ℕ → ℝ) (b1 A1 b2 A2 : ℕ → ℕ → ℝ) (c1 c2 : ℕ → ℝ)

/-- The reference's argument arrays hold these reals, and the ring's table. -/
structure Held : Prop where
  h0 : V (Proc.devRef .tc main_arg0) = cube 64 4 400 X
  h1 : V (Proc.devRef .tc main_arg1) = cube 4 4 64 W1
  h2 : V (Proc.devRef .tc main_arg2) = mat 4 64 b1
  h3 : V (Proc.devRef .tc main_arg3) = cube 4 128 1 fun k t _ => A1 k t
  h4 : V (Proc.devRef .tc main_arg4) = mat 4 1 fun k _ => c1 k
  h5 : V (Proc.devRef .tc main_arg5) = cube 4 256 12 W2
  h6 : V (Proc.devRef .tc main_arg6) = mat 4 12 b2
  h7 : V (Proc.devRef .tc main_arg7) = cube 4 24 1 fun k t _ => A2 k t
  h8 : V (Proc.devRef .tc main_arg8) = mat 4 1 fun k _ => c2 k
  h9 : V (Proc.devRef .tc main_arg9) = table

/-- The first layer's features. -/
def first : ℕ → ℕ → ℕ → ℕ → ℝ := lin 4 W1 b1 fun a n f => X a f n

/-- The second layer's features. -/
def second : ℕ → ℕ → ℕ → ℕ → ℝ :=
  lin 256 W2 b2 fun b n q => layer 64 A1 c1 (first X W1 b1) b (q % 4) n (q / 4)

variable {V X W1 W2 b1 A1 b2 A2 c1 c2}

theorem expo_pos (e : ℕ → ℕ → ℕ → ℕ → ℝ) (b k n d : ℕ) : 0 < expo e b k n d := Real.exp_pos _

theorem v5_eq (h : Held V X W1 W2 b1 A1 b2 A2 c1 c2) : res_main_v5 V = hyper 64 4 400 64 (first X W1 b1) := by
  unfold res_main_v5
  rw [h.h0, h.h1, h.h2, transpose_cube_last]
  exact lin1_eq W1 (fun a n f => X a f n) b1

theorem v12_eq (h : Held V X W1 W2 b1 A1 b2 A2 c1 c2) :
    res_main_v12 V = penta 64 4 400 8 64 fun b k n d o => first X W1 b1 b k (ring n d) o := by
  unfold res_main_v12
  rw [v5_eq h, h.h9]
  exact gather_links 64 _ _ _ places_eq

theorem v21_eq (h : Held V X W1 W2 b1 A1 b2 A2 c1 c2) : res_main_v21 V = hyper 64 4 400 8 (raw 64 A1 c1 (first X W1 b1)) := by
  unfold res_main_v21
  rw [v5_eq h, v12_eq h, h.h3, h.h4]
  exact raw1_eq A1 c1 _

theorem v22_eq (h : Held V X W1 W2 b1 A1 b2 A2 c1 c2) :
    res_main_v22 V = hyper 64 4 400 8 fun b k n d => leaky (raw 64 A1 c1 (first X W1 b1) b k n d) := by
  unfold res_main_v22
  rw [v21_eq h]
  exact leaky_eq _

theorem v29_eq (h : Held V X W1 W2 b1 A1 b2 A2 c1 c2) :
    res_main_v29 V = hyper 64 4 400 8 (expo (raw 64 A1 c1 (first X W1 b1))) := by
  unfold res_main_v29
  rw [v22_eq h]
  exact expo_eq _

theorem v46_eq (h : Held V X W1 W2 b1 A1 b2 A2 c1 c2) :
    res_main_v46 V = hyper 64 4 400 12 (second X W1 W2 b1 A1 b2 c1) := by
  unfold res_main_v46
  rw [v12_eq h, v29_eq h, h.h5, h.h6]
  erw [blend1_eq _ _ (expo_pos _), flat_eq]
  exact lin2_eq W2 _ b2

theorem v53_eq (h : Held V X W1 W2 b1 A1 b2 A2 c1 c2) :
    res_main_v53 V = penta 64 4 400 8 12 fun b k n d o => second X W1 W2 b1 A1 b2 c1 b k (ring n d) o := by
  unfold res_main_v53
  rw [v46_eq h, h.h9]
  exact gather_links 12 _ _ _ places_eq

theorem v62_eq (h : Held V X W1 W2 b1 A1 b2 A2 c1 c2) :
    res_main_v62 V = hyper 64 4 400 8 (raw 12 A2 c2 (second X W1 W2 b1 A1 b2 c1)) := by
  unfold res_main_v62
  rw [v46_eq h, v53_eq h, h.h7, h.h8]
  exact raw2_eq A2 c2 _

theorem v63_eq (h : Held V X W1 W2 b1 A1 b2 A2 c1 c2) :
    res_main_v63 V = hyper 64 4 400 8 fun b k n d => leaky (raw 12 A2 c2 (second X W1 W2 b1 A1 b2 c1) b k n d) := by
  unfold res_main_v63
  rw [v62_eq h]
  exact leaky_eq _

theorem v70_eq (h : Held V X W1 W2 b1 A1 b2 A2 c1 c2) :
    res_main_v70 V = hyper 64 4 400 8 (expo (raw 12 A2 c2 (second X W1 W2 b1 A1 b2 c1))) := by
  unfold res_main_v70
  rw [v63_eq h]
  exact expo_eq _

end

end Cert.Gat

end
-- ==== Proof.Equal.lean ====
/- The kernel's result and the reference's are the same real numbers. -/
module

public import proofs.«01_k».proof.Proof.Suffix
public import proofs.«01_k».proof.Proof.Values

@[expose] public section

noncomputable section

namespace Cert.Gat

open scoped BigOperators

/-! ## The weighted mean -/

/-- The mean of eight values under the weights that the exponentials of the scores give. -/
def soft (e v : ℕ → ℝ) : ℝ := ∑ d ∈ Finset.range 8, v d * (Real.exp (e d) / ∑ d ∈ Finset.range 8, Real.exp (e d))

/-- The weights do not change when one number is taken from every score. -/
theorem soft_shift (e : ℕ → ℝ) (M : ℝ) (d : ℕ) :
    Real.exp (e d - M) / ∑ d ∈ Finset.range 8, Real.exp (e d - M) = Real.exp (e d) / ∑ d ∈ Finset.range 8, Real.exp (e d) := by
  simp only [Real.exp_sub, ← Finset.sum_div]
  exact div_div_div_cancel_right₀ (Real.exp_ne_zero M) _ _

/-- The weights' sum is one: a mean of sums is the sum of the means, and a constant's mean is the constant. -/
theorem soft_lin (K : ℕ) (e w : ℕ → ℝ) (v : ℕ → ℕ → ℝ) (b : ℝ) :
    soft e (fun d => ∑ f ∈ Finset.range K, w f * v f d + b) = ∑ f ∈ Finset.range K, w f * soft e (v f) + b := by
  have hne : ∑ d ∈ Finset.range 8, Real.exp (e d) ≠ 0 := (Finset.sum_pos (fun d _ => Real.exp_pos _) ⟨0, by decide⟩).ne'
  have hone : ∑ d ∈ Finset.range 8, b * (Real.exp (e d) / ∑ d ∈ Finset.range 8, Real.exp (e d)) = b := by
    rw [← Finset.mul_sum, ← Finset.sum_div, div_self hne, mul_one]
  unfold soft
  simp only [add_mul, Finset.sum_add_distrib, hone, Finset.sum_mul, Finset.mul_sum]
  rw [Finset.sum_comm]
  simp only [mul_assoc]

theorem blend_soft (e h : ℕ → ℕ → ℕ → ℕ → ℝ) (a k n o : ℕ) :
    blend (expo e) h a k n o = soft (fun d => leaky (e a k n d)) fun d => h a k (ring n d) o := by
  unfold blend soft expo
  refine Finset.sum_congr rfl fun d _ => congrArg _ ?_
  exact soft_shift (fun d => leaky (e a k n d)) _ d

theorem mix_soft (n : ℕ) (e h : ℕ → ℕ → ℝ) (r q k : ℕ) (hk : q / n = k) (hk4 : k < 4) :
    mix n (weight e) h r q = soft (fun d => e r (4 * d + k)) fun d => h (r + sh d) q := by
  have hw : ∀ d, weight e r (4 * d + k) = Real.exp (e r (4 * d + k) - top e r k) := fun d => by
    unfold weight
    rw [show (4 * d + k) % 4 = k by omega]
  have ht : tot (weight e) r k = ∑ d ∈ Finset.range 8, weight e r (4 * d + k) := by
    unfold tot
    simp only [Finset.sum_range_succ, Finset.sum_range_zero]
    rw [show 4 * 0 + k = k by omega, show 4 * 1 + k = k + 4 by omega, show 4 * 2 + k = k + 8 by omega, show 4 * 3 + k = k + 4 + 8 by omega,
      show 4 * 4 + k = k + 16 by omega, show 4 * 5 + k = k + 4 + 16 by omega, show 4 * 6 + k = k + 8 + 16 by omega,
      show 4 * 7 + k = k + 4 + 8 + 16 by omega]
    ring
  have hg : gather n (weight e) h r q = ∑ d ∈ Finset.range 8, h (r + sh d) q * weight e r (4 * d + k) := by
    unfold gather
    rw [hk]
    simp only [Finset.sum_range_succ, Finset.sum_range_zero, sh]
    norm_num
    ring
  unfold mix soft
  rw [hk, hg, ht, Finset.sum_div]
  refine Finset.sum_congr rfl fun d _ => ?_
  rw [mul_div_assoc]
  refine congrArg _ ?_
  simp only [hw]
  exact soft_shift (fun d => e r (4 * d + k)) _ d

/-! ## Sums over the heads' columns -/

/-- A sum over four groups of `n` columns. -/
theorem sum_groups (n : ℕ) (f : ℕ → ℝ) :
    ∑ q ∈ Finset.range (4 * n), f q = ∑ k ∈ Finset.range 4, ∑ i ∈ Finset.range n, f (n * k + i) := by
  have e : 4 * n = n + n + n + n := by ring
  rw [e, Finset.sum_range_add, Finset.sum_range_add, Finset.sum_range_add, Finset.sum_range_succ, Finset.sum_range_succ,
    Finset.sum_range_succ, Finset.sum_range_one]
  simp only [show n * 0 = 0 by ring, show n * 1 = n by ring, show n * 2 = n + n by ring, show n * 3 = n + n + n by ring, Nat.zero_add]

/-- A sum over groups of four columns. -/
theorem sum_fours (n : ℕ) (f : ℕ → ℝ) :
    ∑ q ∈ Finset.range (4 * n), f q = ∑ t ∈ Finset.range n, ∑ i ∈ Finset.range 4, f (4 * t + i) := by
  induction n with
  | zero => rfl
  | succ n ih => rw [Nat.mul_succ, Finset.sum_range_add, ih, Finset.sum_range_succ _ n]

theorem group_div (n k i : ℕ) (hi : i < n) : (n * k + i) / n = k := by
  rw [Nat.mul_add_div (by omega), Nat.div_eq_of_lt hi, Nat.add_zero]

theorem group_mod (n k i : ℕ) (hi : i < n) : (n * k + i) % n = i := by
  rw [Nat.mul_add_mod, Nat.mod_eq_of_lt hi]

/-- Only head `k`'s group of columns counts. -/
theorem sum_group (n k : ℕ) (hk : k < 4) (f : ℕ → ℝ) (hf : ∀ k' i, k' < 4 → i < n → k' ≠ k → f (n * k' + i) = 0) :
    ∑ q ∈ Finset.range (4 * n), f q = ∑ i ∈ Finset.range n, f (n * k + i) := by
  rw [sum_groups]
  refine Finset.sum_eq_single_of_mem k (Finset.mem_range.2 hk) fun k' hk' hne => ?_
  exact Finset.sum_eq_zero fun i hi => hf k' i (Finset.mem_range.1 hk') (Finset.mem_range.1 hi) hne

/-- A row times the attention matrix: head `k`'s half for the row itself. -/
theorem attn_self (n k : ℕ) (hk : k < 4) (A : ℕ → ℕ → ℝ) (u : ℕ → ℝ) :
    ∑ q ∈ Finset.range (4 * n), u q * attn n A q k = ∑ i ∈ Finset.range n, A k i * u (n * k + i) := by
  rw [sum_group n k hk]
  · refine Finset.sum_congr rfl fun i hi => ?_
    unfold attn
    rw [if_pos hk, group_div n k i (Finset.mem_range.1 hi), group_mod n k i (Finset.mem_range.1 hi), if_pos rfl, mul_comm]
  · intro k' i _ hi hne
    unfold attn
    rw [if_pos hk, group_div n k' i hi, if_neg hne, mul_zero]

/-- The same for the neighbour's half. -/
theorem attn_other (n k : ℕ) (hk : k < 4) (A : ℕ → ℕ → ℝ) (u : ℕ → ℝ) :
    ∑ q ∈ Finset.range (4 * n), u q * attn n A q (4 + k) = ∑ i ∈ Finset.range n, A k (n + i) * u (n * k + i) := by
  rw [sum_group n k hk]
  · refine Finset.sum_congr rfl fun i hi => ?_
    unfold attn
    rw [if_neg (by omega), group_div n k i (Finset.mem_range.1 hi), group_mod n k i (Finset.mem_range.1 hi),
      if_pos (by omega), show 4 + k - 4 = k by omega, mul_comm]
  · intro k' i _ hi hne
    unfold attn
    rw [if_neg (by omega), group_div n k' i hi, if_neg (by omega), mul_zero]

/-! ## Where a row's neighbours are -/

/-- Row `r` holds link `(r + 396) mod 400` in its fourth row further, and that link's neighbour in direction `d` is in row
    `r + sh d`. -/
theorem ring_sh (r d : ℕ) (hd : d < 8) : ring ((r + 396) % 400) d = (r + sh d + 392) % 400 := by
  unfold ring sh
  split <;> omega

theorem ring_shift (n d : ℕ) (hd : d < 8) (hn : n < 400) : ring n d = (n + sh d + 396) % 400 := by
  unfold ring sh
  split <;> omega

section

variable (X W1 W2 : ℕ → ℕ → ℕ → ℝ) (b1 A1 b2 A2 : ℕ → ℕ → ℝ) (c1 c2 : ℕ → ℝ)

/-- The first layer's columns of scores for the row itself. -/
theorem self1 (x : ℕ → ℕ → ℝ) (r k : ℕ) (hk : k < 4) :
    dense 4 x (wabOf W1 A1) r k + sbOf b1 A1 k
      = ∑ t ∈ Finset.range 64, A1 k t * (∑ f ∈ Finset.range 4, W1 k f t * x r f + b1 k t) := by
  have hw : ∀ f, wabOf W1 A1 f k = ∑ t ∈ Finset.range 64, A1 k t * W1 k f t := fun f => by
    unfold wabOf
    refine (attn_self 64 k hk A1 fun q => W1 (q / 64) f (q % 64)).trans (Finset.sum_congr rfl fun t ht => ?_)
    rw [group_div 64 k t (Finset.mem_range.1 ht), group_mod 64 k t (Finset.mem_range.1 ht)]
  have hs : sbOf b1 A1 k = ∑ t ∈ Finset.range 64, A1 k t * b1 k t := by
    unfold sbOf flat
    refine (attn_self 64 k hk A1 fun q => b1 (q / 64) (q % 64)).trans (Finset.sum_congr rfl fun t ht => ?_)
    rw [group_div 64 k t (Finset.mem_range.1 ht), group_mod 64 k t (Finset.mem_range.1 ht)]
  unfold dense
  simp only [hw, hs, Finset.mul_sum, mul_add, Finset.sum_add_distrib]
  rw [Finset.sum_comm]
  exact congrArg (· + _) (Finset.sum_congr rfl fun t _ => Finset.sum_congr rfl fun f _ => by ring)

/-- The first layer's columns of scores for the neighbours. -/
theorem other1 (x : ℕ → ℕ → ℝ) (r k : ℕ) (hk : k < 4) :
    dense 4 x (wabOf W1 A1) r (4 + k) + sbOf b1 A1 (4 + k)
      = ∑ t ∈ Finset.range 64, A1 k (64 + t) * (∑ f ∈ Finset.range 4, W1 k f t * x r f + b1 k t) := by
  have hw : ∀ f, wabOf W1 A1 f (4 + k) = ∑ t ∈ Finset.range 64, A1 k (64 + t) * W1 k f t := fun f => by
    unfold wabOf
    refine (attn_other 64 k hk A1 fun q => W1 (q / 64) f (q % 64)).trans (Finset.sum_congr rfl fun t ht => ?_)
    rw [group_div 64 k t (Finset.mem_range.1 ht), group_mod 64 k t (Finset.mem_range.1 ht)]
  have hs : sbOf b1 A1 (4 + k) = ∑ t ∈ Finset.range 64, A1 k (64 + t) * b1 k t := by
    unfold sbOf flat
    refine (attn_other 64 k hk A1 fun q => b1 (q / 64) (q % 64)).trans (Finset.sum_congr rfl fun t ht => ?_)
    rw [group_div 64 k t (Finset.mem_range.1 ht), group_mod 64 k t (Finset.mem_range.1 ht)]
  unfold dense
  simp only [hw, hs, Finset.mul_sum, mul_add, Finset.sum_add_distrib]
  rw [Finset.sum_comm]
  exact congrArg (· + _) (Finset.sum_congr rfl fun t _ => Finset.sum_congr rfl fun f _ => by ring)

/-- A batch's features as the kernel holds them: copied for every head, and the ring continued at both ends. -/
def wide (b r j : ℕ) : ℝ := X b (j % 4) ((r + 392) % 400)

/-- The first layer's scores. -/
theorem score1 (b r k d : ℕ) (hk : k < 4) (hd : d < 8) :
    score (fun r j => dense 4 (wide X b) (wabOf W1 A1) r j + sbOf b1 A1 j) (fun j => c1 (j % 4)) r (4 * d + k)
      = leaky (raw 64 A1 c1 (first X W1 b1) b k ((r + 396) % 400) d) := by
  unfold score
  dsimp only
  rw [show (4 * d + k) % 4 = k by omega, show (4 * d + k) / 4 = d by omega, self1 W1 b1 A1 _ _ k hk, other1 W1 b1 A1 _ _ k hk]
  unfold raw first lin wide
  rw [ring_sh r d hd]
  refine congrArg leaky (congrArg (· + c1 k) (congrArg₂ (· + ·) ?_ ?_))
  · refine Finset.sum_congr rfl fun t _ => congrArg _ (congrArg (· + _) (Finset.sum_congr rfl fun f hf => ?_))
    rw [Nat.mod_eq_of_lt (Finset.mem_range.1 hf), show r + 4 + 392 = r + 396 by omega]
  · refine Finset.sum_congr rfl fun t _ => congrArg _ (congrArg (· + _) (Finset.sum_congr rfl fun f hf => ?_))
    rw [Nat.mod_eq_of_lt (Finset.mem_range.1 hf)]

theorem soft_congr {e e' v v' : ℕ → ℝ} (he : ∀ d, d < 8 → e d = e' d) (hv : ∀ d, d < 8 → v d = v' d) : soft e v = soft e' v' := by
  unfold soft
  rw [Finset.sum_congr rfl fun d hd => congrArg Real.exp (he d (Finset.mem_range.1 hd))]
  exact Finset.sum_congr rfl fun d hd => by rw [he d (Finset.mem_range.1 hd), hv d (Finset.mem_range.1 hd)]

/-- The first layer: the kernel mixes the features before the heads' weights, the reference after them. -/
theorem hidden_eq (b r k t : ℕ) (hk : k < 4) (ht : t < 64) :
    dense 16 (mix 4 (weight1 (wide X b) (wabOf W1 A1) (sbOf b1 A1) fun j => c1 (j % 4)) (wide X b)) (block1 W1) r (64 * k + t)
        + flat 64 b1 (64 * k + t)
      = layer 64 A1 c1 (first X W1 b1) b k ((r + 396) % 400) t := by
  unfold layer dense flat
  rw [blend_soft, group_div 64 k t ht, group_mod 64 k t ht, show 16 = 4 * 4 from rfl, sum_group 4 k hk]
  · unfold first lin
    rw [soft_lin 4 _ (fun f => W1 k f t) fun f d => X b f (ring ((r + 396) % 400) d)]
    refine congrArg (· + _) (Finset.sum_congr rfl fun f hf => ?_)
    have hf4 := Finset.mem_range.1 hf
    unfold block1 weight1
    rw [group_div 64 k t ht, group_mod 64 k t ht, group_div 4 k f hf4, group_mod 4 k f hf4, if_pos rfl,
      mix_soft 4 _ _ r _ k (group_div 4 k f hf4) hk, mul_comm]
    refine congrArg _ (soft_congr (fun d hd => score1 X W1 b1 A1 c1 b r k d hk hd) fun d hd => ?_)
    unfold wide
    rw [group_mod 4 k f hf4, ring_sh r d hd]
  · intro k' f _ hf hne
    unfold block1
    rw [group_div 4 k' f hf, group_div 64 k t ht, if_neg hne, mul_zero]

/-- The second layer's features. -/
theorem feat2_eq (b r k o : ℕ) (ho : o < 12) :
    feat2 (wide X b) (wabOf W1 A1) (block1 W1) (block2 W2) (sbOf b1 A1) (fun j => c1 (j % 4)) (flat 64 b1) (flat 12 b2) r (12 * k + o)
      = second X W1 W2 b1 A1 b2 c1 b k ((r + 396) % 400) o := by
  unfold feat2 second lin
  refine congrArg₂ (· + ·) ?_ (by unfold flat; rw [group_div 12 k o ho, group_mod 12 k o ho])
  rw [dense, show 256 = 4 * 64 from rfl, sum_groups, sum_fours, Finset.sum_comm]
  refine Finset.sum_congr rfl fun t ht => Finset.sum_congr rfl fun k' hk' => ?_
  have ht := Finset.mem_range.1 ht
  have hk' := Finset.mem_range.1 hk'
  rw [hidden_eq X W1 b1 A1 c1 b r k' t hk' ht, mul_comm]
  unfold block2
  dsimp only
  rw [group_div 64 k' t ht, group_mod 64 k' t ht, group_div 12 k o ho, group_mod 12 k o ho, group_div 4 t k' hk', group_mod 4 t k' hk',
    mul_comm t 4]

/-- The second layer's scores. -/
theorem score2 (b n k d : ℕ) (hk : k < 4) (hd : d < 8) (hn : n < 400) (h : ℕ → ℕ → ℝ) (g : ℕ → ℕ → ℕ → ℕ → ℝ)
    (hh : ∀ r k o, o < 12 → h r (12 * k + o) = g b k ((r + 396) % 400) o) :
    score (dense 48 h (attn 12 A2)) (fun j => c2 (j % 4)) n (4 * d + k) = leaky (raw 12 A2 c2 g b k n d) := by
  unfold score dense raw
  dsimp only
  rw [show (4 * d + k) % 4 = k by omega, show (4 * d + k) / 4 = d by omega, show 48 = 4 * 12 from rfl, attn_self 12 k hk, attn_other 12 k hk,
    ring_shift n d hd hn]
  refine congrArg leaky (congrArg (· + c2 k) (congrArg₂ (· + ·) ?_ ?_))
  · refine Finset.sum_congr rfl fun o ho => congrArg _ ?_
    rw [hh _ _ _ (Finset.mem_range.1 ho), show (n + 4 + 396) % 400 = n by omega]
  · exact Finset.sum_congr rfl fun o ho => congrArg _ (hh _ _ _ (Finset.mem_range.1 ho))

/-- The kernel's result for one batch is the reference's. -/
theorem net_eq (b n o : ℕ) (hn : n < 400) (ho : o < 12) :
    net X W1 W2 b1 A1 b2 A2 c1 c2 b n o
      = ∑ k ∈ Finset.range 4, layer 12 A2 c2 (second X W1 W2 b1 A1 b2 c1) b k n o := by
  have hh := fun r k o => feat2_eq X W1 W2 b1 A1 b2 c1 b r k o
  have hk : ∀ k, k < 4 → attend2 (feat2 (wide X b) (wabOf W1 A1) (block1 W1) (block2 W2) (sbOf b1 A1) (fun j => c1 (j % 4)) (flat 64 b1)
      (flat 12 b2)) (attn 12 A2) (fun j => c2 (j % 4)) n (12 * k + o) = layer 12 A2 c2 (second X W1 W2 b1 A1 b2 c1) b k n o := fun k hk => by
    unfold attend2 layer
    rw [mix_soft 12 _ _ n _ k (group_div 12 k o ho) hk, blend_soft]
    refine soft_congr (fun d hd => score2 A2 c2 b n k d hk hd hn _ _ hh) fun d hd => ?_
    rw [hh _ _ _ ho, ring_shift n d hd hn]
  rw [Finset.sum_range_succ, Finset.sum_range_succ, Finset.sum_range_succ, Finset.sum_range_one, ← hk 0 (by decide), ← hk 1 (by decide),
    ← hk 2 (by decide), ← hk 3 (by decide)]
  show heads _ n o = _
  unfold heads
  rw [show 12 * 0 + o = o by omega, show 12 * 1 + o = o + 12 by omega, show 12 * 2 + o = o + 24 by omega, show 12 * 3 + o = o + 12 + 24 by omega]
  unfold wide
  ring

end

end Cert.Gat

end
-- ==== Proof.Finite.lean ====
/- What the precondition says: every float argument holds reals, and the table of neighbours is the ring's. -/
module

public import proofs.«01_k».proof.Proof.Values
public import proofs.«01_k».proof.Pre_finite_on_the_ring
public import proofs.«01_k».proof.Proof.Gen.Pre_finite_on_the_ring
public import Idealize.ShloMosaic.Lib.ReduceAll
public import Idealize.ShloMosaic.Lib.Affine
public import Idealize.ShloMosaic.Lib.StableHlo.Predicate

@[expose] public section

set_option maxHeartbeats 1000000

noncomputable section

namespace Cert.Gat

open Idealize.ShloMosaic

/-- A number whose absolute value is below infinity is a real. -/
theorem real_of_abs {x : EReal} (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => exact ⟨r, rfl⟩

theorem real_of_all {S : Shape} {axes : List (Fin S.rank)} (v : FVec Ideal S .f32) (b : (⟨0, ![]⟩ : Shape).BroadcastsInDim S (![] : Fin 0 → Fin S.rank))
    (r : S.ReducesTo axes ⟨0, ![]⟩) (hn : 0 < (⟨0, ![]⟩ : Shape).numel) (j : (⟨0, ![]⟩ : Shape).Idx)
    (h : Host.reduce IntOp.andi (cmpf .olt (Host.absf v) (broadcastInDim S ![] b (constant ⟨0, ![]⟩ .f32 0x7F800000#32))) (constantI ⟨0, ![]⟩ 1 1#1) r hn j = 1#1)
    (i : S.Idx) : ∃ x : ℝ, v i = (x : EReal) :=
  real_of_abs (Host.reduce_andi_all _ _ _ _ _ h i)

/-- An array of reals is a matrix of reals. -/
theorem exists_mat {R C : ℕ} (v : FVec Ideal ⟨2, ![R, C]⟩ .f32) (h : ∀ i, ∃ x : ℝ, v i = (x : EReal)) : ∃ f, v = mat R C f := by
  choose g hg using h
  refine ⟨fun a b => if h : a < R ∧ b < C then g (ix2 ⟨a, h.1⟩ ⟨b, h.2⟩) else 0, funext fun i => ?_⟩
  obtain ⟨a, b, rfl⟩ : ∃ a b, i = ix2 a b := ⟨i 0, i 1, by funext a; fin_cases a <;> rfl⟩
  rw [hg]
  show _ = (((if h : a.val < R ∧ b.val < C then _ else _) : ℝ) : EReal)
  rw [dif_pos ⟨a.isLt, b.isLt⟩]
  rfl

theorem exists_cube {A B C : ℕ} (v : FVec Ideal ⟨3, ![A, B, C]⟩ .f32) (h : ∀ i, ∃ x : ℝ, v i = (x : EReal)) : ∃ f, v = cube A B C f := by
  choose g hg using h
  refine ⟨fun a b c => if h : a < A ∧ b < B ∧ c < C then g (ix3 ⟨a, h.1⟩ ⟨b, h.2.1⟩ ⟨c, h.2.2⟩) else 0, funext fun i => ?_⟩
  obtain ⟨a, b, c, rfl⟩ : ∃ a b c, i = ix3 a b c := ⟨i 0, i 1, i 2, by funext a; fin_cases a <;> rfl⟩
  rw [hg]
  show _ = (((if h : a.val < A ∧ b.val < B ∧ c.val < C then _ else _) : ℝ) : EReal)
  rw [dif_pos ⟨a.isLt, b.isLt, c.isLt⟩]
  rfl

theorem exists_column {R : ℕ} (v : FVec Ideal ⟨2, ![R, 1]⟩ .f32) (h : ∀ i, ∃ x : ℝ, v i = (x : EReal)) :
    ∃ f : ℕ → ℝ, v = mat R 1 fun k _ => f k := by
  obtain ⟨f, rfl⟩ := exists_mat v h
  exact ⟨fun k => f k 0, mat_congr fun r c _ hc => by rw [show c = 0 by omega]⟩

theorem exists_columns {A B : ℕ} (v : FVec Ideal ⟨3, ![A, B, 1]⟩ .f32) (h : ∀ i, ∃ x : ℝ, v i = (x : EReal)) :
    ∃ f : ℕ → ℕ → ℝ, v = cube A B 1 fun k t _ => f k t := by
  obtain ⟨f, rfl⟩ := exists_cube v h
  refine ⟨fun k t => f k t 0, funext fun i => ?_⟩
  have h2 : (i 2).val < 1 := (i 2).isLt
  show ((f _ _ (i 2).val : ℝ) : EReal) = ((f _ _ 0 : ℝ) : EReal)
  rw [show (i 2).val = 0 by omega]

/-- The arithmetic of the table at one link and one neighbour, each of the 3200 pairs in turn. -/
theorem ring_word (n : Fin 400) (d : Fin 8) :
    IntOp.remsi ArithUnit.host (IntOp.addi (IntOp.addi (BitVec.ofNat 32 n.val) (Scalar.select (IntOp.cmpi .slt (BitVec.ofNat 32 d.val) 4#32)
      (IntOp.addi (BitVec.ofNat 32 d.val) 1#32) (IntOp.subi 3#32 (BitVec.ofNat 32 d.val)))) 400#32) 400#32 = BitVec.ofNat 32 (ring n.val d.val) := by
  revert n d
  decide +kernel

open Cert.Pre_finite_on_the_ring Cert.Pre_finite_on_the_ring.Gen in
/-- The precondition's table of neighbours. -/
theorem table_eq (v : IVec ⟨2, ![400, 8]⟩ 32)
    (h : ∀ i, cmpi .eq v (Host.remsi (addi (addi (iotaInDim S400x8 32 0) (select (cmpi .slt (iotaInDim S400x8 32 1) (broadcastInDim S400x8 ![] bcast_S_S400x8 (constantI S_ 32 4#32)))
      (addi (iotaInDim S400x8 32 1) (broadcastInDim S400x8 ![] bcast_S_S400x8 (constantI S_ 32 1#32)))
      (subi (broadcastInDim S400x8 ![] bcast_S_S400x8 (constantI S_ 32 3#32)) (iotaInDim S400x8 32 1)))) (broadcastInDim S400x8 ![] bcast_S_S400x8 (constantI S_ 32 400#32)))
      (broadcastInDim S400x8 ![] bcast_S_S400x8 (constantI S_ 32 400#32))) i = 1#1) : v = table := by
  funext i
  refine (IntOp.cmpi_eq.1 (h i)).trans ?_
  pointwise
  exact ring_word (i 0) (i 1)

open Cert.Pre_finite_on_the_ring Cert.Pre_finite_on_the_ring.Gen in
theorem decode (a0 : FVec Ideal S64x4x400 .f32) (a1 : FVec Ideal S4x4x64 .f32) (a2 : FVec Ideal S4x64 .f32) (a3 : FVec Ideal S4x128x1 .f32)
    (a4 : FVec Ideal S4x1 .f32) (a5 : FVec Ideal S4x256x12 .f32) (a6 : FVec Ideal S4x12 .f32) (a7 : FVec Ideal S4x24x1 .f32)
    (a8 : FVec Ideal S4x1 .f32) (a9 : IVec S400x8 32)
    (h : Cert.Pre_finite_on_the_ring.fn (F := Ideal) a0 a1 a2 a3 a4 a5 a6 a7 a8 a9 = fun _ => 1#1) :
    (∃ X W1 W2 : ℕ → ℕ → ℕ → ℝ, ∃ b1 A1 b2 A2 : ℕ → ℕ → ℝ, ∃ c1 c2 : ℕ → ℝ,
      a0 = cube 64 4 400 X ∧ a1 = cube 4 4 64 W1 ∧ a2 = mat 4 64 b1 ∧ a3 = (cube 4 128 1 fun k t _ => A1 k t) ∧ a4 = (mat 4 1 fun k _ => c1 k)
        ∧ a5 = cube 4 256 12 W2 ∧ a6 = mat 4 12 b2 ∧ a7 = (cube 4 24 1 fun k t _ => A2 k t) ∧ a8 = mat 4 1 fun k _ => c2 k) ∧ a9 = table := by
  have h := congrFun h ix0
  dsimp only [fn, fn_part1, fn_part2, fn_part3, fn_where] at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  obtain ⟨X, e0⟩ := exists_cube a0 (real_of_all _ _ _ _ _ h0)
  obtain ⟨W1, e1⟩ := exists_cube a1 (real_of_all _ _ _ _ _ h1)
  obtain ⟨b1, e2⟩ := exists_mat a2 (real_of_all _ _ _ _ _ h2)
  obtain ⟨A1, e3⟩ := exists_columns a3 (real_of_all _ _ _ _ _ h3)
  obtain ⟨c1, e4⟩ := exists_column a4 (real_of_all _ _ _ _ _ h4)
  obtain ⟨W2, e5⟩ := exists_cube a5 (real_of_all _ _ _ _ _ h5)
  obtain ⟨b2, e6⟩ := exists_mat a6 (real_of_all _ _ _ _ _ h6)
  obtain ⟨A2, e7⟩ := exists_columns a7 (real_of_all _ _ _ _ _ h7)
  obtain ⟨c2, e8⟩ := exists_column a8 (real_of_all _ _ _ _ _ h8)
  exact ⟨⟨X, W1, W2, b1, A1, b2, A2, c1, c2, e0, e1, e2, e3, e4, e5, e6, e7, e8⟩, table_eq a9 fun i => Host.reduce_andi_all _ _ _ _ _ h9 i⟩

end Cert.Gat

end
-- ==== Proof.Agree.lean ====
/- The two programs agree: the kernel's result and the reference's are the same sums of attention layers. -/
module

public import proofs.«01_k».proof.Proof.Equal
public import proofs.«01_k».proof.Proof.Finite
public import proofs.«01_k».proof.Defs

@[expose] public section

set_option maxHeartbeats 4000000
set_option maxRecDepth 16384

noncomputable section

namespace Cert.Gat

open Idealize.ShloMosaic Idealize.SL.Sem

/-- The kernel's result array, as its last lines leave it. -/
def output (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v212) :=
  Pipeline.afterTail₀ Cert.KernelIdeal.cfgs (Cert.KernelIdeal.Gen.dats m) 0 (Cert.KernelIdeal.Gen.V0 m) [Cert.KernelIdeal.Gen.hostOps1] c
    Cert.KernelIdeal.main_v212

section

variable {m : (ℓ : Loc Cert.KernelIdeal.nD Cert.KernelIdeal.τ Cert.KernelIdeal.sig) → Buf (Elt Ideal) ℓ} {c : Dev Cert.KernelIdeal.nD}
variable {V : Valuation Cert.ReferenceIdeal.τ Cert.ReferenceIdeal.sig (Elt Ideal)}
variable {X W1 W2 : ℕ → ℕ → ℕ → ℝ} {b1 A1 b2 A2 : ℕ → ℕ → ℝ} {c1 c2 : ℕ → ℝ}

open Cert.ReferenceIdeal Cert.ReferenceIdeal.Gen Cert.ReferenceIdeal.Value in
/-- From the same reals, the reference's last term is the kernel's result. -/
theorem value_eq (hk : Given m c X W1 W2 b1 A1 b2 A2 c1 c2) (hr : Held V X W1 W2 b1 A1 b2 A2 c1 c2) :
    shapeCast S64x12x400 (transpose S64x12x400x1 [0, 3, 1, 2] (shapeCast S64x400x1x12 (Host.reduceAdd (transpose S64x400x12x4 [0, 2, 3, 1]
      (Host.reduceAdd (mulf (res_main_v53 V) (broadcastInDim S64x4x400x8x12 ![0, 1, 2, 3, 4]
      bcast_S64x4x400x8x1_S64x4x400x8x12_0_1_2_3_4 (broadcastInDim S64x4x400x8x1 ![0, 1, 2, 3] bcast_S64x4x400x8_S64x4x400x8x1_0_1_2_3
        (Host.divf (res_main_v70 V) (broadcastInDim S64x4x400x8 ![0, 1, 2, 3] bcast_S64x4x400x1_S64x4x400x8_0_1_2_3 (broadcastInDim S64x4x400x1 ![0, 1, 2]
          bcast_S64x4x400_S64x4x400x1_0_1_2 (Host.reduceAdd (res_main_v70 V) (constant S_ .f32 0x00000000#32) reducesTo_S64x4x400x8_S64x4x400_d3 h_S_)))))))
      (constant S_ .f32 0x00000000#32) reducesTo_S64x4x400x8x12_S64x4x400x12_d3 h_S_) transposes_S64x4x400x12_S64x400x12x4_0_2_3_1)
      (constant S_ .f32 0x00000000#32) reducesTo_S64x400x12x4_S64x400x12_d3 h_S_) shapeCasts_S64x400x12_S64x400x1x12)
      transposes_S64x400x1x12_S64x12x400x1_0_3_1_2) shapeCasts_S64x12x400x1_S64x12x400
    = output m c := by
  unfold output
  rw [v53_eq hr, v70_eq hr, last_eq _ _ (expo_pos _)]
  refine Eq.trans (funext fun i => ?_) (tail_eq hk).symm
  exact congrArg (fun r : ℝ => (r : EReal)) (net_eq X W1 W2 b1 A1 b2 A2 c1 c2 (i 0).val (i 2).val (i 1).val (i 2).isLt (i 1).isLt).symm

end

/-- From arguments that meet the precondition, the two programs leave the same result, and their arguments as they were. -/
theorem results_agree : Cert.algebraic_KernelIdeal_ReferenceIdeal_pre_finite_on_the_ring (hKernelIdeal := Cert.KernelIdeal.Gen.facts)
    (hReferenceIdeal := Cert.ReferenceIdeal.Gen.facts) (hPre_finite_on_the_ring := Cert.Pre_finite_on_the_ring.Gen.facts) := by
  intro m g m' g' hpre hagree
  refine ⟨output m, ?_, ?_⟩
  · exact (θ_run _ _ _).mono (fun r h c => ⟨(h.2 c).2 Cert.KernelIdeal.main_v212 (Pipeline.mem_restRefs_of Cert.KernelIdeal.main_v212 (by decide) (by decide)), h.1 c⟩)
      (θ_run_and (Cert.KernelIdeal.Gen.unchanged m g) (Cert.KernelIdeal.Gen.run_main m g))
  · refine (θ_run _ _ _).mono (fun r h c => ⟨(h c).1.trans ?_, (h c).2⟩) (Cert.ReferenceIdeal.Value.run m' g')
    obtain ⟨⟨X, W1, W2, b1, A1, b2, A2, c1, c2, e0, e1, e2, e3, e4, e5, e6, e7, e8⟩, e9⟩ := decode _ _ _ _ _ _ _ _ _ _ (hpre c)
    obtain ⟨q0, q1, q2, q3, q4, q5, q6, q7, q8, q9⟩ := hagree c
    exact value_eq (V := StableHlo.launchContents m' c) (X := X) (W1 := W1) (W2 := W2) (b1 := b1) (A1 := A1) (b2 := b2) (A2 := A2) (c1 := c1) (c2 := c2)
      ⟨e0, e1, e2, e3, e4, e5, e6, e7, e8⟩
      ⟨q0.trans e0, q1.trans e1, q2.trans e2, q3.trans e3, q4.trans e4, q5.trans e5, q6.trans e6, q7.trans e7, q8.trans e8, q9.trans e9⟩

end Cert.Gat

end
-- ==== Proof.lean ====
/- The proof of the certificate's claims: the frames of the kernel, of the kernel over the extended reals and of the
   reference, and the equality of the two results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_on_the_ring
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel's frame: its arguments end as they began, and its counters at zero. -/
theorem frame_kernel : Cert.quiescent_Kernel (hKernel := Cert.Kernel.Gen.facts) :=
  fun m ρ _ => Cert.Kernel.Gen.frame m ρ

/-- The same of the kernel read over the extended reals. -/
theorem frame_kernelIdeal : Cert.quiescent_KernelIdeal (hKernelIdeal := Cert.KernelIdeal.Gen.facts) :=
  fun m ρ _ => Cert.KernelIdeal.Gen.frame m ρ

/-- The same of the reference, which runs on the host alone. -/
theorem frame_reference : Cert.quiescent_ReferenceIdeal (hReferenceIdeal := Cert.ReferenceIdeal.Gen.facts) :=
  fun m ρ _ =>
    (θ_run Cert.ReferenceIdeal.defs _ _).mono
      (fun r h => ⟨fun c => (h c).2, Idealize.ShloMosaic.sem_eq_zero_of_no_sems (by decide) r.2⟩)
      (Cert.ReferenceIdeal.Value.run (F := Ideal) m ρ)

theorem claim : Cert.Claim :=
  ⟨Cert.Kernel.Gen.facts, Cert.KernelIdeal.Gen.facts, Cert.ReferenceIdeal.Gen.facts,
    Cert.Pre_finite_on_the_ring.Gen.facts, frame_kernel, frame_kernelIdeal, fun m ρ _ => frame_kernelIdeal m ρ trivial,
    frame_reference, fun m ρ _ => frame_reference m ρ trivial, trivial, Cert.Gat.results_agree⟩

end Cert.Proof

end
